-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v63) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v4)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v4) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v50) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v95) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hFfn : Cert.Ffn.Facts) (hFfnIdeal : Cert.FfnIdeal.Facts) (hFfnRefIdeal : Cert.FfnRefIdeal.Facts) (hFfnFirst : Cert.FfnFirst.Facts) (hFfnFirstIdeal : Cert.FfnFirstIdeal.Facts) (hFfnFirstRefIdeal : Cert.FfnFirstRefIdeal.Facts) (hMerge : Cert.Merge.Facts) (hMergeIdeal : Cert.MergeIdeal.Facts) (hMergeRefIdeal : Cert.MergeRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InProjRefIdeal (hInProjRefIdeal := hInProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InProjRefIdeal (hInProjIdeal := hInProjIdeal) (hInProjRefIdeal := hInProjRefIdeal)
    ∧ preserves_Ffn_FfnIdeal
    ∧ algebraic_FfnIdeal_FfnRefIdeal (hFfnIdeal := hFfnIdeal) (hFfnRefIdeal := hFfnRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_Merge_MergeIdeal
    ∧ algebraic_MergeIdeal_MergeRefIdeal (hMergeIdeal := hMergeIdeal) (hMergeRefIdeal := hMergeRefIdeal)
-- ==== Kernel.lean ====
abbrev S16384x12800 : Shape := ⟨2, ![16384, 12800]⟩
abbrev S1024 : Shape := ⟨1, ![1024]⟩
abbrev S1x1024 : Shape := ⟨2, ![1, 1024]⟩
abbrev S4096 : Shape := ⟨1, ![4096]⟩
abbrev S_ : Shape := ⟨0, ![]⟩
abbrev S63 : Shape := ⟨1, ![63]⟩
abbrev S1 : Shape := ⟨1, ![1]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S16384x1024 : Shape := ⟨2, ![16384, 1024]⟩
abbrev S512x512 : Shape := ⟨2, ![512, 512]⟩
abbrev S512x1024 : Shape := ⟨2, ![512, 1024]⟩
abbrev S512x128 : Shape := ⟨2, ![512, 128]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 102
  | .vmem => 20
  | .smem => 0
  | _ => 0

abbrev bufTy : (tb : Table) → Fin (tcTables nBuf tb) → BufTy
  | .hbm, ⟨0, _⟩ => ⟨S16384x12800, .bf16⟩
  | .hbm, ⟨1, _⟩ => ⟨S1024, .f32⟩
  | .hbm, ⟨2, _⟩ => ⟨S1x1024, .f32⟩
  | .hbm, ⟨3, _⟩ => ⟨S4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S63, .f32⟩
  | .hbm, ⟨12, _⟩ => ⟨S_, .f32⟩
  | .hbm, ⟨13, _⟩ => ⟨S63, .f32⟩
  | .hbm, ⟨14, _⟩ => ⟨S63, .f32⟩
  | .hbm, ⟨15, _⟩ => ⟨S1, .f32⟩
  | .hbm, ⟨16, _⟩ => ⟨S_, .f32⟩
  | .hbm, ⟨17, _⟩ => ⟨S63, .f32⟩
  | .hbm, ⟨18, _⟩ => ⟨S63, .f32⟩
  | .hbm, ⟨19, _⟩ => ⟨S63, .f32⟩
  | .hbm, ⟨20, _⟩ => ⟨S63, .f32⟩
  | .hbm, ⟨21, _⟩ => ⟨S1, .f32⟩
  | .hbm, ⟨22, _⟩ => ⟨S63, .f32⟩
  | .hbm, ⟨23, _⟩ => ⟨S63, .f32⟩
  | .hbm, ⟨24, _⟩ => ⟨S63, .f32⟩
  | .hbm, ⟨25, _⟩ => ⟨S1, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S4096x1, .f32⟩
  | .hbm, ⟨32, _⟩ => ⟨S1x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S4096x128, .f32⟩
  | .hbm, ⟨39, _⟩ => ⟨S4096x64, .f32⟩
  | .hbm, ⟨40, _⟩ => ⟨S4096x128, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S128, .f32⟩
  | .hbm, ⟨51, _⟩ => ⟨S128x1, .f32⟩
  | .hbm, ⟨52, _⟩ => ⟨S1x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S_, .f32⟩
  | .hbm, ⟨57, _⟩ => ⟨S128x128, .f32⟩
  | .hbm, ⟨58, _⟩ => ⟨S128x128, .i1⟩
  | .hbm, ⟨59, _⟩ => ⟨S4x1x1, .f32⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S1x128x128, .f32⟩
  | .hbm, ⟨64, _⟩ => ⟨S4x128x128, .f32⟩
  | .hbm, ⟨65, _⟩ => ⟨S4x128x128, .f32⟩
  | .hbm, ⟨66, _⟩ => ⟨S4x128x128, .f32⟩
  | .hbm, ⟨67, _⟩ => ⟨S4x128x128, .f32⟩
  | .hbm, ⟨68, _⟩ => ⟨S_, .f32⟩
  | .hbm, ⟨69, _⟩ => ⟨S_, .f32⟩
  | .hbm, ⟨70, _⟩ => ⟨S4x128x128, .i1⟩
  | .hbm, ⟨71, _⟩ => ⟨S4x128x128, .f32⟩
  | .hbm, ⟨72, _⟩ => ⟨S4x128x128, .f32⟩
  | .hbm, ⟨73, _⟩ => ⟨S4x1, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S4x128, .f32⟩
  | .hbm, ⟨79, _⟩ => ⟨S4x128, .f32⟩
  | .hbm, ⟨80, _⟩ => ⟨S4x128, .f32⟩
  | .hbm, ⟨81, _⟩ => ⟨S4x128, .f32⟩
  | .hbm, ⟨82, _⟩ => ⟨S4x1, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S4x128, .f32⟩
  | .hbm, ⟨88, _⟩ => ⟨S4x128, .f32⟩
  | .hbm, ⟨89, _⟩ => ⟨S4x128, .f32⟩
  | .hbm, ⟨90, _⟩ => ⟨S4x128, .f32⟩
  | .hbm, ⟨91, _⟩ => ⟨S_, .f32⟩
  | .hbm, ⟨92, _⟩ => ⟨S4, .f32⟩
  | .hbm, ⟨93, _⟩ => ⟨S4, .f32⟩
  | .hbm, ⟨94, _⟩ => ⟨S4, .f32⟩
  | .hbm, ⟨95, _⟩ => ⟨S4x128x1, .f32⟩
  | .hbm, ⟨96, _⟩ => ⟨S4x128x256, .f32⟩
  | .hbm, ⟨97, _⟩ => ⟨S4x128x1, .f32⟩
  | .hbm, ⟨98, _⟩ => ⟨S4x128x256, .f32⟩
  | .hbm, ⟨99, _⟩ => ⟨S4x1x1, .f32⟩
  | .hbm, ⟨100, _⟩ => ⟨S4x128x256, .f32⟩
  | .hbm, ⟨101, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x128x128, .f32⟩
  | .local _ .vmem, ⟨13, _⟩ => ⟨S4x128x256, .f32⟩
  | .local _ .vmem, ⟨14, _⟩ => ⟨S4x128x256, .f32⟩
  | .local _ .vmem, ⟨15, _⟩ => ⟨S4x128x256, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S4x128x256, .f32⟩
  | _, _ => ⟨S16384x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v39 : Ref sig .tc := ⟨.hbm, 72, rfl⟩
abbrev main_v40 : Ref sig .tc := ⟨.hbm, 73, rfl⟩
abbrev main_cst_7 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16384x12800 : Shape := ⟨2, ![16384, 12800]⟩
abbrev S1024 : Shape := ⟨1, ![1024]⟩
abbrev S4x4096x12800 : Shape := ⟨3, ![4, 4096, 12800]⟩
abbrev S4x4096x512 : Shape := ⟨3, ![4, 4096, 512]⟩
abbrev S4x4096x4x128 : Shape := ⟨4, ![4, 4096, 4, 128]⟩
abbrev S4x4096x1024 : Shape := ⟨3, ![4, 4096, 1024]⟩
abbrev S4x4096x4x256 : Shape := ⟨4, ![4, 4096, 4, 256]⟩
abbrev S4096 : Shape := ⟨1, ![4096]⟩
abbrev S_ : Shape := ⟨0, ![]⟩
abbrev S63 : Shape := ⟨1, ![63]⟩
abbrev S1 : Shape := ⟨1, ![1]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x4x64 : Shape := ⟨4, ![4, 4096, 4, 64]⟩
abbrev S4 : Shape := ⟨1, ![4]⟩
abbrev S4x32x128x4x128 : Shape := ⟨5, ![4, 32, 128, 4, 128]⟩
abbrev S4x32x128x4x256 : Shape := ⟨5, ![4, 32, 128, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x32x4x128x128 : Shape := ⟨5, ![4, 32, 4, 128, 128]⟩
abbrev S1x1x4x128x128 : Shape := ⟨5, ![1, 1, 4, 128, 128]⟩
abbrev S4x32x4x256x128 : Shape := ⟨5, ![4, 32, 4, 256, 128]⟩
abbrev S4x1 : Shape := ⟨2, ![4, 1]⟩
abbrev S4x128 : Shape := ⟨2, ![4, 128]⟩
abbrev S128x4 : Shape := ⟨2, ![128, 4]⟩
abbrev S1x1x128x4x1 : Shape := ⟨5, ![1, 1, 128, 4, 1]⟩
abbrev S32x4x4x128x256 : Shape := ⟨5, ![32, 4, 4, 128, 256]⟩
abbrev S1x4x1x1 : Shape := ⟨4, ![1, 4, 1, 1]⟩
abbrev S4x4x128x256 : Shape := ⟨4, ![4, 4, 128, 256]⟩
abbrev S1x4x4x128x256 : Shape := ⟨5, ![1, 4, 4, 128, 256]⟩
abbrev S16x4x4x128x256 : Shape := ⟨5, ![16, 4, 4, 128, 256]⟩
abbrev S4x4096x4 : Shape := ⟨3, ![4, 4096, 4]⟩
abbrev S4x4096x4x1 : Shape := ⟨4, ![4, 4096, 4, 1]⟩
abbrev S1x1x1024 : Shape := ⟨3, ![1, 1, 1024]⟩
abbrev S16384x1024 : Shape := ⟨2, ![16384, 1024]⟩

abbrev nBuf : Space → Nat
  | .hbm => 390
  | .vmem => 0
  | .smem => 0
  | _ => 0

abbrev hbmTy0_0 (i : Nat) : BufTy := match i % 128 with
  | 0 => ⟨S16384x12800, .bf16⟩
  | 1 => ⟨S1024, .f32⟩
  | 2 => ⟨S16384x12800, .f32⟩
  | 3 => ⟨S4x4096x12800, .f32⟩
  | 4 => ⟨S4x4096x512, .f32⟩
  | 5 => ⟨S4x4096x4x128, .f32⟩
  | 6 => ⟨S4x4096x512, .f32⟩
  | 7 => ⟨S4x4096x4x128, .f32⟩
  | 8 => ⟨S4x4096x1024, .f32⟩
  | 9 => ⟨S4x4096x4x256, .f32⟩
  | 10 => ⟨S4x4096x1024, .f32⟩
  | 11 => ⟨S4096, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S63, .f32⟩
  | 20 => ⟨S_, .f32⟩
  | 21 => ⟨S63, .f32⟩
  | 22 => ⟨S63, .f32⟩
  | 23 => ⟨S1, .f32⟩
  | 24 => ⟨S_, .f32⟩
  | 25 => ⟨S63, .f32⟩
  | 26 => ⟨S63, .f32⟩
  | 27 => ⟨S63, .f32⟩
  | 28 => ⟨S63, .f32⟩
  | 29 => ⟨S1, .f32⟩
  | 30 => ⟨S63, .f32⟩
  | 31 => ⟨S63, .f32⟩
  | 32 => ⟨S63, .f32⟩
  | 33 => ⟨S1, .f32⟩
  | 34 => ⟨S64, .f32⟩
  | 35 => ⟨S64, .f32⟩
  | 36 => ⟨S_, .f32⟩
  | 37 => ⟨S64, .f32⟩
  | 38 => ⟨S64, .f32⟩
  | 39 => ⟨S4096x1, .f32⟩
  | 40 => ⟨S1x64, .f32⟩
  | 41 => ⟨S4096x64, .f32⟩
  | 42 => ⟨S4096x64, .f32⟩
  | 43 => ⟨S4096x64, .f32⟩
  | 44 => ⟨S4096x64, .f32⟩
  | 45 => ⟨S1x4096x1x64, .f32⟩
  | 46 => ⟨S4096x64, .f32⟩
  | 47 => ⟨S1x4096x1x64, .f32⟩
  | 48 => ⟨S4x4096x4x64, .f32⟩
  | 49 => ⟨S4x4096x4x64, .f32⟩
  | 50 => ⟨S4x4096x4x64, .f32⟩
  | 51 => ⟨S4x4096x4x64, .f32⟩
  | 52 => ⟨S4x4096x4x64, .f32⟩
  | 53 => ⟨S4x4096x4x64, .f32⟩
  | 54 => ⟨S4x4096x4x64, .f32⟩
  | 55 => ⟨S4x4096x4x64, .f32⟩
  | 56 => ⟨S4x4096x4x64, .f32⟩
  | 57 => ⟨S4x4096x4x64, .f32⟩
  | 58 => ⟨S4x4096x4x64, .f32⟩
  | 59 => ⟨S4x4096x4x64, .f32⟩
  | 60 => ⟨S4x4096x4x128, .f32⟩
  | 61 => ⟨S4x4096x4x64, .f32⟩
  | 62 => ⟨S4x4096x4x64, .f32⟩
  | 63 => ⟨S4x4096x4x64, .f32⟩
  | 64 => ⟨S4x4096x4x64, .f32⟩
  | 65 => ⟨S4x4096x4x64, .f32⟩
  | 66 => ⟨S4x4096x4x64, .f32⟩
  | 67 => ⟨S4x4096x4x64, .f32⟩
  | 68 => ⟨S4x4096x4x64, .f32⟩
  | 69 => ⟨S4x4096x4x64, .f32⟩
  | 70 => ⟨S4x4096x4x64, .f32⟩
  | 71 => ⟨S4x4096x4x64, .f32⟩
  | 72 => ⟨S4x4096x4x64, .f32⟩
  | 73 => ⟨S4x4096x4x128, .f32⟩
  | 74 => ⟨S_, .f32⟩
  | 75 => ⟨S4x4096x4x128, .f32⟩
  | 76 => ⟨S4x4096x4x128, .f32⟩
  | 77 => ⟨S4, .f32⟩
  | 78 => ⟨S_, .f32⟩
  | 79 => ⟨S4, .f32⟩
  | 80 => ⟨S4, .f32⟩
  | 81 => ⟨S_, .f32⟩
  | 82 => ⟨S4, .f32⟩
  | 83 => ⟨S4, .f32⟩
  | 84 => ⟨S4, .f32⟩
  | 85 => ⟨S4, .f32⟩
  | 86 => ⟨S4x32x128x4x128, .f32⟩
  | 87 => ⟨S4x32x128x4x128, .f32⟩
  | 88 => ⟨S4x32x128x4x256, .f32⟩
  | 89 => ⟨S128, .f32⟩
  | 90 => ⟨S128x1, .f32⟩
  | 91 => ⟨S1x128, .f32⟩
  | 92 => ⟨S128x128, .f32⟩
  | 93 => ⟨S128x128, .f32⟩
  | 94 => ⟨S128x128, .f32⟩
  | 95 => ⟨S_, .f32⟩
  | 96 => ⟨S128x128, .f32⟩
  | 97 => ⟨S128x128, .i1⟩
  | 98 => ⟨S4x1x1, .f32⟩
  | 99 => ⟨S_, .f32⟩
  | 100 => ⟨S128x128, .f32⟩
  | 101 => ⟨S128x128, .f32⟩
  | 102 => ⟨S1x128x128, .f32⟩
  | 103 => ⟨S4x128x128, .f32⟩
  | 104 => ⟨S4x128x128, .f32⟩
  | 105 => ⟨S4x128x128, .f32⟩
  | 106 => ⟨S4x128x128, .f32⟩
  | 107 => ⟨S_, .f32⟩
  | 108 => ⟨S_, .f32⟩
  | 109 => ⟨S4x128x128, .i1⟩
  | 110 => ⟨S4x128x128, .f32⟩
  | 111 => ⟨S4x128x128, .f32⟩
  | 112 => ⟨S4x32x4x128x128, .f32⟩
  | 113 => ⟨S1x1x4x128x128, .f32⟩
  | 114 => ⟨S4x32x4x128x128, .f32⟩
  | 115 => ⟨S4x32x4x128x128, .f32⟩
  | 116 => ⟨S4x32x4x256x128, .f32⟩
  | 117 => ⟨S4x32x128x4x256, .f32⟩
  | 118 => ⟨S4x1, .f32⟩
  | 119 => ⟨S_, .f32⟩
  | 120 => ⟨S128, .f32⟩
  | 121 => ⟨S128, .f32⟩
  | 122 => ⟨S1x128, .f32⟩
  | 123 => ⟨S4x128, .f32⟩
  | 124 => ⟨S4x128, .f32⟩
  | 125 => ⟨S4x128, .f32⟩
  | 126 => ⟨S4x128, .f32⟩
  | 127 => ⟨S128x4, .f32⟩
  | _ => ⟨S16384x12800, .bf16⟩

abbrev hbmTy0_1 (i : Nat) : BufTy := match i % 128 with
  | 0 => ⟨S1x1x128x4x1, .f32⟩
  | 1 => ⟨S4x32x128x4x256, .f32⟩
  | 2 => ⟨S4x32x128x4x256, .f32⟩
  | 3 => ⟨S32x4x4x128x256, .f32⟩
  | 4 => ⟨S_, .f32⟩
  | 5 => ⟨S4, .f32⟩
  | 6 => ⟨S4, .f32⟩
  | 7 => ⟨S4, .f32⟩
  | 8 => ⟨S1x4x1x1, .f32⟩
  | 9 => ⟨S_, .f32⟩
  | 10 => ⟨S4x4x128x256, .f32⟩
  | 11 => ⟨S4x4x128x256, .f32⟩
  | 12 => ⟨S4x4x128x256, .f32⟩
  | 13 => ⟨S1x4x4x128x256, .f32⟩
  | 14 => ⟨S4x4x128x256, .f32⟩
  | 15 => ⟨S4x4x128x256, .f32⟩
  | 16 => ⟨S4x4x128x256, .f32⟩
  | 17 => ⟨S4x4x128x256, .f32⟩
  | 18 => ⟨S1x4x4x128x256, .f32⟩
  | 19 => ⟨S4x4x128x256, .f32⟩
  | 20 => ⟨S4x4x128x256, .f32⟩
  | 21 => ⟨S4x4x128x256, .f32⟩
  | 22 => ⟨S4x4x128x256, .f32⟩
  | 23 => ⟨S1x4x4x128x256, .f32⟩
  | 24 => ⟨S4x4x128x256, .f32⟩
  | 25 => ⟨S4x4x128x256, .f32⟩
  | 26 => ⟨S4x4x128x256, .f32⟩
  | 27 => ⟨S4x4x128x256, .f32⟩
  | 28 => ⟨S1x4x4x128x256, .f32⟩
  | 29 => ⟨S4x4x128x256, .f32⟩
  | 30 => ⟨S4x4x128x256, .f32⟩
  | 31 => ⟨S4x4x128x256, .f32⟩
  | 32 => ⟨S4x4x128x256, .f32⟩
  | 33 => ⟨S1x4x4x128x256, .f32⟩
  | 34 => ⟨S4x4x128x256, .f32⟩
  | 35 => ⟨S4x4x128x256, .f32⟩
  | 36 => ⟨S4x4x128x256, .f32⟩
  | 37 => ⟨S4x4x128x256, .f32⟩
  | 38 => ⟨S1x4x4x128x256, .f32⟩
  | 39 => ⟨S4x4x128x256, .f32⟩
  | 40 => ⟨S4x4x128x256, .f32⟩
  | 41 => ⟨S4x4x128x256, .f32⟩
  | 42 => ⟨S4x4x128x256, .f32⟩
  | 43 => ⟨S1x4x4x128x256, .f32⟩
  | 44 => ⟨S4x4x128x256, .f32⟩
  | 45 => ⟨S4x4x128x256, .f32⟩
  | 46 => ⟨S4x4x128x256, .f32⟩
  | 47 => ⟨S4x4x128x256, .f32⟩
  | 48 => ⟨S1x4x4x128x256, .f32⟩
  | 49 => ⟨S4x4x128x256, .f32⟩
  | 50 => ⟨S4x4x128x256, .f32⟩
  | 51 => ⟨S4x4x128x256, .f32⟩
  | 52 => ⟨S4x4x128x256, .f32⟩
  | 53 => ⟨S1x4x4x128x256, .f32⟩
  | 54 => ⟨S4x4x128x256, .f32⟩
  | 55 => ⟨S4x4x128x256, .f32⟩
  | 56 => ⟨S4x4x128x256, .f32⟩
  | 57 => ⟨S4x4x128x256, .f32⟩
  | 58 => ⟨S1x4x4x128x256, .f32⟩
  | 59 => ⟨S4x4x128x256, .f32⟩
  | 60 => ⟨S4x4x128x256, .f32⟩
  | 61 => ⟨S4x4x128x256, .f32⟩
  | 62 => ⟨S4x4x128x256, .f32⟩
  | 63 => ⟨S1x4x4x128x256, .f32⟩
  | 64 => ⟨S4x4x128x256, .f32⟩
  | 65 => ⟨S4x4x128x256, .f32⟩
  | 66 => ⟨S4x4x128x256, .f32⟩
  | 67 => ⟨S4x4x128x256, .f32⟩
  | 68 => ⟨S1x4x4x128x256, .f32⟩
  | 69 => ⟨S4x4x128x256, .f32⟩
  | 70 => ⟨S4x4x128x256, .f32⟩
  | 71 => ⟨S4x4x128x256, .f32⟩
  | 72 => ⟨S4x4x128x256, .f32⟩
  | 73 => ⟨S1x4x4x128x256, .f32⟩
  | 74 => ⟨S4x4x128x256, .f32⟩
  | 75 => ⟨S4x4x128x256, .f32⟩
  | 76 => ⟨S4x4x128x256, .f32⟩
  | 77 => ⟨S4x4x128x256, .f32⟩
  | 78 => ⟨S1x4x4x128x256, .f32⟩
  | 79 => ⟨S4x4x128x256, .f32⟩
  | 80 => ⟨S4x4x128x256, .f32⟩
  | 81 => ⟨S4x4x128x256, .f32⟩
  | 82 => ⟨S4x4x128x256, .f32⟩
  | 83 => ⟨S1x4x4x128x256, .f32⟩
  | 84 => ⟨S4x4x128x256, .f32⟩
  | 85 => ⟨S4x4x128x256, .f32⟩
  | 86 => ⟨S4x4x128x256, .f32⟩
  | 87 => ⟨S4x4x128x256, .f32⟩
  | 88 => ⟨S1x4x4x128x256, .f32⟩
  | 89 => ⟨S4x4x128x256, .f32⟩
  | 90 => ⟨S4x4x128x256, .f32⟩
  | 91 => ⟨S4x4x128x256, .f32⟩
  | 92 => ⟨S4x4x128x256, .f32⟩
  | 93 => ⟨S1x4x4x128x256, .f32⟩
  | 94 => ⟨S4x4x128x256, .f32⟩
  | 95 => ⟨S4x4x128x256, .f32⟩
  | 96 => ⟨S4x4x128x256, .f32⟩
  | 97 => ⟨S4x4x128x256, .f32⟩
  | 98 => ⟨S1x4x4x128x256, .f32⟩
  | 99 => ⟨S4x4x128x256, .f32⟩
  | 100 => ⟨S4x4x128x256, .f32⟩
  | 101 => ⟨S4x4x128x256, .f32⟩
  | 102 => ⟨S4x4x128x256, .f32⟩
  | 103 => ⟨S1x4x4x128x256, .f32⟩
  | 104 => ⟨S4x4x128x256, .f32⟩
  | 105 => ⟨S4x4x128x256, .f32⟩
  | 106 => ⟨S4x4x128x256, .f32⟩
  | 107 => ⟨S4x4x128x256, .f32⟩
  | 108 => ⟨S1x4x4x128x256, .f32⟩
  | 109 => ⟨S4x4x128x256, .f32⟩
  | 110 => ⟨S4x4x128x256, .f32⟩
  | 111 => ⟨S4x4x128x256, .f32⟩
  | 112 => ⟨S4x4x128x256, .f32⟩
  | 113 => ⟨S1x4x4x128x256, .f32⟩
  | 114 => ⟨S4x4x128x256, .f32⟩
  | 115 => ⟨S4x4x128x256, .f32⟩
  | 116 => ⟨S4x4x128x256, .f32⟩
  | 117 => ⟨S4x4x128x256, .f32⟩
  | 118 => ⟨S1x4x4x128x256, .f32⟩
  | 119 => ⟨S4x4x128x256, .f32⟩
  | 120 => ⟨S4x4x128x256, .f32⟩
  | 121 => ⟨S4x4x128x256, .f32⟩
  | 122 => ⟨S4x4x128x256, .f32⟩
  | 123 => ⟨S1x4x4x128x256, .f32⟩
  | 124 => ⟨S4x4x128x256, .f32⟩
  | 125 => ⟨S4x4x128x256, .f32⟩
  | 126 => ⟨S4x4x128x256, .f32⟩
  | 127 => ⟨S4x4x128x256, .f32⟩
  | _ => ⟨S16384x12800, .bf16⟩

abbrev hbmTy0_2 (i : Nat) : BufTy := match i % 128 with
  | 0 => ⟨S1x4x4x128x256, .f32⟩
  | 1 => ⟨S4x4x128x256, .f32⟩
  | 2 => ⟨S4x4x128x256, .f32⟩
  | 3 => ⟨S4x4x128x256, .f32⟩
  | 4 => ⟨S4x4x128x256, .f32⟩
  | 5 => ⟨S1x4x4x128x256, .f32⟩
  | 6 => ⟨S4x4x128x256, .f32⟩
  | 7 => ⟨S4x4x128x256, .f32⟩
  | 8 => ⟨S4x4x128x256, .f32⟩
  | 9 => ⟨S4x4x128x256, .f32⟩
  | 10 => ⟨S1x4x4x128x256, .f32⟩
  | 11 => ⟨S4x4x128x256, .f32⟩
  | 12 => ⟨S4x4x128x256, .f32⟩
  | 13 => ⟨S4x4x128x256, .f32⟩
  | 14 => ⟨S4x4x128x256, .f32⟩
  | 15 => ⟨S1x4x4x128x256, .f32⟩
  | 16 => ⟨S4x4x128x256, .f32⟩
  | 17 => ⟨S4x4x128x256, .f32⟩
  | 18 => ⟨S4x4x128x256, .f32⟩
  | 19 => ⟨S4x4x128x256, .f32⟩
  | 20 => ⟨S1x4x4x128x256, .f32⟩
  | 21 => ⟨S4x4x128x256, .f32⟩
  | 22 => ⟨S4x4x128x256, .f32⟩
  | 23 => ⟨S4x4x128x256, .f32⟩
  | 24 => ⟨S4x4x128x256, .f32⟩
  | 25 => ⟨S1x4x4x128x256, .f32⟩
  | 26 => ⟨S4x4x128x256, .f32⟩
  | 27 => ⟨S4x4x128x256, .f32⟩
  | 28 => ⟨S4x4x128x256, .f32⟩
  | 29 => ⟨S4x4x128x256, .f32⟩
  | 30 => ⟨S1x4x4x128x256, .f32⟩
  | 31 => ⟨S4x4x128x256, .f32⟩
  | 32 => ⟨S4x4x128x256, .f32⟩
  | 33 => ⟨S4x4x128x256, .f32⟩
  | 34 => ⟨S4x4x128x256, .f32⟩
  | 35 => ⟨S1x4x4x128x256, .f32⟩
  | 36 => ⟨S4x4x128x256, .f32⟩
  | 37 => ⟨S4x4x128x256, .f32⟩
  | 38 => ⟨S4x4x128x256, .f32⟩
  | 39 => ⟨S4x4x128x256, .f32⟩
  | 40 => ⟨S1x4x4x128x256, .f32⟩
  | 41 => ⟨S4x4x128x256, .f32⟩
  | 42 => ⟨S4x4x128x256, .f32⟩
  | 43 => ⟨S1x4x4x128x256, .f32⟩
  | 44 => ⟨S1x4x4x128x256, .f32⟩
  | 45 => ⟨S1x4x4x128x256, .f32⟩
  | 46 => ⟨S1x4x4x128x256, .f32⟩
  | 47 => ⟨S1x4x4x128x256, .f32⟩
  | 48 => ⟨S1x4x4x128x256, .f32⟩
  | 49 => ⟨S1x4x4x128x256, .f32⟩
  | 50 => ⟨S1x4x4x128x256, .f32⟩
  | 51 => ⟨S1x4x4x128x256, .f32⟩
  | 52 => ⟨S1x4x4x128x256, .f32⟩
  | 53 => ⟨S1x4x4x128x256, .f32⟩
  | 54 => ⟨S1x4x4x128x256, .f32⟩
  | 55 => ⟨S1x4x4x128x256, .f32⟩
  | 56 => ⟨S1x4x4x128x256, .f32⟩
  | 57 => ⟨S1x4x4x128x256, .f32⟩
  | 58 => ⟨S1x4x4x128x256, .f32⟩
  | 59 => ⟨S1x4x4x128x256, .f32⟩
  | 60 => ⟨S1x4x4x128x256, .f32⟩
  | 61 => ⟨S1x4x4x128x256, .f32⟩
  | 62 => ⟨S1x4x4x128x256, .f32⟩
  | 63 => ⟨S1x4x4x128x256, .f32⟩
  | 64 => ⟨S1x4x4x128x256, .f32⟩
  | 65 => ⟨S1x4x4x128x256, .f32⟩
  | 66 => ⟨S1x4x4x128x256, .f32⟩
  | 67 => ⟨S1x4x4x128x256, .f32⟩
  | 68 => ⟨S1x4x4x128x256, .f32⟩
  | 69 => ⟨S1x4x4x128x256, .f32⟩
  | 70 => ⟨S1x4x4x128x256, .f32⟩
  | 71 => ⟨S1x4x4x128x256, .f32⟩
  | 72 => ⟨S1x4x4x128x256, .f32⟩
  | 73 => ⟨S1x4x4x128x256, .f32⟩
  | 74 => ⟨S1x4x4x128x256, .f32⟩
  | 75 => ⟨S16x4x4x128x256, .f32⟩
  | 76 => ⟨S16x4x4x128x256, .f32⟩
  | 77 => ⟨S32x4x4x128x256, .f32⟩
  | 78 => ⟨S4x1, .f32⟩
  | 79 => ⟨S_, .f32⟩
  | 80 => ⟨S128, .f32⟩
  | 81 => ⟨S128, .f32⟩
  | 82 => ⟨S1x128, .f32⟩
  | 83 => ⟨S4x128, .f32⟩
  | 84 => ⟨S4x128, .f32⟩
  | 85 => ⟨S4x128, .f32⟩
  | 86 => ⟨S4x128, .f32⟩
  | 87 => ⟨S4x32x4x256x128, .f32⟩
  | 88 => ⟨S4x32x128x4x256, .f32⟩
  | 89 => ⟨S128x4, .f32⟩
  | 90 => ⟨S1x1x128x4x1, .f32⟩
  | 91 => ⟨S4x32x128x4x256, .f32⟩
  | 92 => ⟨S4x32x128x4x256, .f32⟩
  | 93 => ⟨S4x32x128x4x256, .f32⟩
  | 94 => ⟨S4x4096x4x256, .f32⟩
  | 95 => ⟨S_, .f32⟩
  | 96 => ⟨S4x4096x4, .f32⟩
  | 97 => ⟨S4x4096x4x1, .f32⟩
  | 98 => ⟨S_, .f32⟩
  | 99 => ⟨S4x4096x4x1, .f32⟩
  | 100 => ⟨S4x4096x4x1, .f32⟩
  | 101 => ⟨S4x4096x4x256, .f32⟩
  | 102 => ⟨S4x4096x4x256, .f32⟩
  | 103 => ⟨S4x4096x4x256, .f32⟩
  | 104 => ⟨S_, .f32⟩
  | 105 => ⟨S4x4096x4, .f32⟩
  | 106 => ⟨S4x4096x4x1, .f32⟩
  | 107 => ⟨S_, .f32⟩
  | 108 => ⟨S4x4096x4x1, .f32⟩
  | 109 => ⟨S4x4096x4x1, .f32⟩
  | 110 => ⟨S4x4096x4x256, .f32⟩
  | 111 => ⟨S4x4096x4x256, .f32⟩
  | 112 => ⟨S_, .f32⟩
  | 113 => ⟨S4x4096x4x1, .f32⟩
  | 114 => ⟨S4x4096x4x1, .f32⟩
  | 115 => ⟨S4x4096x4x1, .f32⟩
  | 116 => ⟨S4x4096x4x256, .f32⟩
  | 117 => ⟨S4x4096x4x256, .f32⟩
  | 118 => ⟨S4x4096x1024, .f32⟩
  | 119 => ⟨S1x1x1024, .f32⟩
  | 120 => ⟨S4x4096x1024, .f32⟩
  | 121 => ⟨S4x4096x1024, .f32⟩
  | 122 => ⟨S4x4096x1024, .f32⟩
  | 123 => ⟨S4x4096x1024, .f32⟩
  | 124 => ⟨S_, .f32⟩
  | 125 => ⟨S4x4096x1024, .f32⟩
  | 126 => ⟨S4x4096x1024, .f32⟩
  | 127 => ⟨S_, .f32⟩
  | _ => ⟨S16384x12800, .bf16⟩

abbrev hbmTy0_3 (i : Nat) : BufTy := match i % 128 with
  | 0 => ⟨S4x4096x1024, .f32⟩
  | 1 => ⟨S4x4096x1024, .f32⟩
  | 2 => ⟨S4x4096x1024, .f32⟩
  | 3 => ⟨S4x4096x1024, .f32⟩
  | 4 => ⟨S16384x1024, .f32⟩
  | 5 => ⟨S16384x1024, .bf16⟩
  | _ => ⟨S16384x12800, .bf16⟩

abbrev hbmTy (i : Nat) : BufTy := match i / 128 with
  | 0 => hbmTy0_0 i
  | 1 => hbmTy0_1 i
  | 2 => hbmTy0_2 i
  | 3 => hbmTy0_3 i
  | _ => ⟨S16384x12800, .bf16⟩

abbrev bufTy : (tb : Table) → Fin (tcTables nBuf tb) → BufTy
  | .hbm, ⟨i, _⟩ => hbmTy i
  | _, _ => ⟨S16384x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_2 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_3 : Ref sig .tc := ⟨.hbm, 78, rfl⟩
abbrev main_v52 : Ref sig .tc := ⟨.hbm, 79, rfl⟩
abbrev main_v53 : Ref sig .tc := ⟨.hbm, 80, rfl⟩
abbrev main_cst_4 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_5 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_6 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_7 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_8 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_9 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_10 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_v270 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_v275 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280 : Ref sig .tc := ⟨.hbm, 317, rfl⟩
abbrev main_v281 : Ref sig .tc := ⟨.hbm, 318, rfl⟩
abbrev main_v282 : Ref sig .tc := ⟨.hbm, 319, rfl⟩
abbrev main_v283 : Ref sig .tc := ⟨.hbm, 320, rfl⟩
abbrev main_v284 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_cst_11 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_cst_12 : Ref sig .tc := ⟨.hbm, 351, rfl⟩
abbrev main_v313 : Ref sig .tc := ⟨.hbm, 352, rfl⟩
abbrev main_v314 : Ref sig .tc := ⟨.hbm, 353, rfl⟩
abbrev main_cst_13 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_cst_14 : Ref sig .tc := ⟨.hbm, 360, rfl⟩
abbrev main_v320 : Ref sig .tc := ⟨.hbm, 361, rfl⟩
abbrev main_v321 : Ref sig .tc := ⟨.hbm, 362, rfl⟩
abbrev main_cst_15 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_cst_16 : Ref sig .tc := ⟨.hbm, 368, rfl⟩
abbrev main_v326 : Ref sig .tc := ⟨.hbm, 369, rfl⟩
abbrev main_v327 : Ref sig .tc := ⟨.hbm, 370, rfl⟩
abbrev main_v328 : Ref sig .tc := ⟨.hbm, 371, rfl⟩
abbrev main_v329 : Ref sig .tc := ⟨.hbm, 372, rfl⟩
abbrev main_v330 : Ref sig .tc := ⟨.hbm, 373, rfl⟩
abbrev main_v331 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_call2_v0 : Ref sig .tc := ⟨.hbm, 378, rfl⟩
abbrev main_call2_v1 : Ref sig .tc := ⟨.hbm, 379, rfl⟩
abbrev main_call2_cst : Ref sig .tc := ⟨.hbm, 380, rfl⟩
abbrev main_call2_v2 : Ref sig .tc := ⟨.hbm, 381, rfl⟩
abbrev main_call2_v3 : Ref sig .tc := ⟨.hbm, 382, rfl⟩
abbrev main_call2_cst_0 : Ref sig .tc := ⟨.hbm, 383, rfl⟩
abbrev main_call2_v4 : Ref sig .tc := ⟨.hbm, 384, rfl⟩
abbrev main_call2_v5 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x12800 : Shape := ⟨2, ![1024, 12800]⟩
abbrev S1x12800 : Shape := ⟨2, ![1, 12800]⟩
abbrev S1x1024 : Shape := ⟨2, ![1, 1024]⟩
abbrev S16384x12800 : Shape := ⟨2, ![16384, 12800]⟩
abbrev S1024x1024 : Shape := ⟨2, ![1024, 1024]⟩
abbrev S1024x2560 : Shape := ⟨2, ![1024, 2560]⟩
abbrev S1x2560 : Shape := ⟨2, ![1, 2560]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12800, .f32⟩
  | .hbm, ⟨3, _⟩ => ⟨S1x12800, .f32⟩
  | .hbm, ⟨4, _⟩ => ⟨S1x1024, .f32⟩
  | .hbm, ⟨5, _⟩ => ⟨S1024x12800, .bf16⟩
  | .hbm, ⟨6, _⟩ => ⟨S16384x12800, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .bf16⟩
  | .local _ .vmem, ⟨5, _⟩ => ⟨S1x2560, .f32⟩
  | .local _ .vmem, ⟨6, _⟩ => ⟨S1x2560, .f32⟩
  | .local _ .vmem, ⟨7, _⟩ => ⟨S1024x2560, .bf16⟩
  | .local _ .vmem, ⟨8, _⟩ => ⟨S1024x2560, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S16384x1024 : Shape := ⟨2, ![16384, 1024]⟩
abbrev S1024 : Shape := ⟨1, ![1024]⟩
abbrev S1024x12800 : Shape := ⟨2, ![1024, 12800]⟩
abbrev S1x12800 : Shape := ⟨2, ![1, 12800]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x12800 : Shape := ⟨2, ![16384, 12800]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12800, .f32⟩
  | .hbm, ⟨3, _⟩ => ⟨S1x12800, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x12800, .f32⟩
  | .hbm, ⟨21, _⟩ => ⟨S16384x12800, .f32⟩
  | .hbm, ⟨22, _⟩ => ⟨S16384x12800, .f32⟩
  | .hbm, ⟨23, _⟩ => ⟨S16384x12800, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S1x1024 : Shape := ⟨2, ![1, 1024]⟩
abbrev S1024x1024 : Shape := ⟨2, ![1024, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S11x8x256 : Shape := ⟨3, ![11, 8, 256]⟩
abbrev S1024x1 : Shape := ⟨2, ![1024, 1]⟩
abbrev S1x1024x256 : Shape := ⟨3, ![1, 1024, 256]⟩
abbrev S1024x256 : Shape := ⟨2, ![1024, 256]⟩
abbrev S1x8x256 : Shape := ⟨3, ![1, 8, 256]⟩
abbrev S8x256 : Shape := ⟨2, ![8, 256]⟩
abbrev S1x3x256 : Shape := ⟨3, ![1, 3, 256]⟩
abbrev S3x256 : Shape := ⟨2, ![3, 256]⟩
abbrev S1x256 : Shape := ⟨2, ![1, 256]⟩
abbrev S1016x256 : Shape := ⟨2, ![1016, 256]⟩
abbrev S1024x1536 : Shape := ⟨2, ![1024, 1536]⟩
abbrev S1x1536x1024 : Shape := ⟨3, ![1, 1536, 1024]⟩
abbrev S1536x1024 : Shape := ⟨2, ![1536, 1024]⟩
abbrev S1024x1280 : Shape := ⟨2, ![1024, 1280]⟩
abbrev S1x1280x1024 : Shape := ⟨3, ![1, 1280, 1024]⟩
abbrev S1280x1024 : Shape := ⟨2, ![1280, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x3x5632, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S2x1024x5632, .bf16⟩
  | .hbm, ⟨8, _⟩ => ⟨S2x2816x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x3x5632, .f32⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S11x8x256, .f32⟩
  | .local _ .vmem, ⟨11, _⟩ => ⟨S11x8x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024 : Shape := ⟨1, ![1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S1x3x5632 : Shape := ⟨3, ![1, 3, 5632]⟩
abbrev S3x5632 : Shape := ⟨2, ![3, 5632]⟩
abbrev S4x1x5632 : Shape := ⟨3, ![4, 1, 5632]⟩
abbrev S4x4095x5632 : Shape := ⟨3, ![4, 4095, 5632]⟩
abbrev S4x2x5632 : Shape := ⟨3, ![4, 2, 5632]⟩
abbrev S4x4094x5632 : Shape := ⟨3, ![4, 4094, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 86
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x3x5632, .f32⟩
  | .hbm, ⟨4, _⟩ => ⟨S2x2816x1024, .f32⟩
  | .hbm, ⟨5, _⟩ => ⟨S1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x5632, .f32⟩
  | .hbm, ⟨24, _⟩ => ⟨S1024x5632, .f32⟩
  | .hbm, ⟨25, _⟩ => ⟨S4x4096x5632, .f32⟩
  | .hbm, ⟨26, _⟩ => ⟨S1x3x5632, .f32⟩
  | .hbm, ⟨27, _⟩ => ⟨S3x5632, .f32⟩
  | .hbm, ⟨28, _⟩ => ⟨S_, .f32⟩
  | .hbm, ⟨29, _⟩ => ⟨S4x1x5632, .f32⟩
  | .hbm, ⟨30, _⟩ => ⟨S4x4095x5632, .f32⟩
  | .hbm, ⟨31, _⟩ => ⟨S4x4096x5632, .f32⟩
  | .hbm, ⟨32, _⟩ => ⟨S_, .f32⟩
  | .hbm, ⟨33, _⟩ => ⟨S4x2x5632, .f32⟩
  | .hbm, ⟨34, _⟩ => ⟨S4x4094x5632, .f32⟩
  | .hbm, ⟨35, _⟩ => ⟨S4x4096x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S4x4096x5632, .f32⟩
  | .hbm, ⟨40, _⟩ => ⟨S4x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S1x2816x1024, .f32⟩
  | .hbm, ⟨66, _⟩ => ⟨S2816x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S_, .f32⟩
  | .hbm, ⟨71, _⟩ => ⟨S4x4096, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x1, .f32⟩
  | .hbm, ⟨80, _⟩ => ⟨S4x4096x1024, .f32⟩
  | .hbm, ⟨81, _⟩ => ⟨S4x4096x1024, .f32⟩
  | .hbm, ⟨82, _⟩ => ⟨S1x1x1024, .f32⟩
  | .hbm, ⟨83, _⟩ => ⟨S4x4096x1024, .f32⟩
  | .hbm, ⟨84, _⟩ => ⟨S4x4096x1024, .f32⟩
  | .hbm, ⟨85, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== FfnFirst.lean ====
abbrev S16384x1024 : Shape := ⟨2, ![16384, 1024]⟩
abbrev S1024 : Shape := ⟨1, ![1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S1x1024 : Shape := ⟨2, ![1, 1024]⟩
abbrev S1024x1024 : Shape := ⟨2, ![1024, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S11x8x256 : Shape := ⟨3, ![11, 8, 256]⟩
abbrev S1024x1 : Shape := ⟨2, ![1024, 1]⟩
abbrev S1x1024x256 : Shape := ⟨3, ![1, 1024, 256]⟩
abbrev S1024x256 : Shape := ⟨2, ![1024, 256]⟩
abbrev S1x8x256 : Shape := ⟨3, ![1, 8, 256]⟩
abbrev S8x256 : Shape := ⟨2, ![8, 256]⟩
abbrev S1x3x256 : Shape := ⟨3, ![1, 3, 256]⟩
abbrev S3x256 : Shape := ⟨2, ![3, 256]⟩
abbrev S1x256 : Shape := ⟨2, ![1, 256]⟩
abbrev S1016x256 : Shape := ⟨2, ![1016, 256]⟩
abbrev S1024x1536 : Shape := ⟨2, ![1024, 1536]⟩
abbrev S1x1536x1024 : Shape := ⟨3, ![1, 1536, 1024]⟩
abbrev S1536x1024 : Shape := ⟨2, ![1536, 1024]⟩
abbrev S1024x1280 : Shape := ⟨2, ![1024, 1280]⟩
abbrev S1x1280x1024 : Shape := ⟨3, ![1, 1280, 1024]⟩
abbrev S1280x1024 : Shape := ⟨2, ![1280, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x3x5632, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S2x1024x5632, .bf16⟩
  | .hbm, ⟨8, _⟩ => ⟨S2x2816x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x3x5632, .f32⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S11x8x256, .f32⟩
  | .local _ .vmem, ⟨11, _⟩ => ⟨S11x8x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFirstRefIdeal.lean ====
abbrev S16384x1024 : Shape := ⟨2, ![16384, 1024]⟩
abbrev S1024 : Shape := ⟨1, ![1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x4096x5632 : Shape := ⟨3, ![4, 4096, 5632]⟩
abbrev S1x3x5632 : Shape := ⟨3, ![1, 3, 5632]⟩
abbrev S3x5632 : Shape := ⟨2, ![3, 5632]⟩
abbrev S4x1x5632 : Shape := ⟨3, ![4, 1, 5632]⟩
abbrev S4x4095x5632 : Shape := ⟨3, ![4, 4095, 5632]⟩
abbrev S4x2x5632 : Shape := ⟨3, ![4, 2, 5632]⟩
abbrev S4x4094x5632 : Shape := ⟨3, ![4, 4094, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S1x2816x1024 : Shape := ⟨3, ![1, 2816, 1024]⟩
abbrev S2816x1024 : Shape := ⟨2, ![2816, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x3x5632, .f32⟩
  | .hbm, ⟨4, _⟩ => ⟨S2x2816x1024, .f32⟩
  | .hbm, ⟨5, _⟩ => ⟨S1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x5632, .f32⟩
  | .hbm, ⟨24, _⟩ => ⟨S1024x5632, .f32⟩
  | .hbm, ⟨25, _⟩ => ⟨S4x4096x5632, .f32⟩
  | .hbm, ⟨26, _⟩ => ⟨S1x3x5632, .f32⟩
  | .hbm, ⟨27, _⟩ => ⟨S3x5632, .f32⟩
  | .hbm, ⟨28, _⟩ => ⟨S_, .f32⟩
  | .hbm, ⟨29, _⟩ => ⟨S4x1x5632, .f32⟩
  | .hbm, ⟨30, _⟩ => ⟨S4x4095x5632, .f32⟩
  | .hbm, ⟨31, _⟩ => ⟨S4x4096x5632, .f32⟩
  | .hbm, ⟨32, _⟩ => ⟨S_, .f32⟩
  | .hbm, ⟨33, _⟩ => ⟨S4x2x5632, .f32⟩
  | .hbm, ⟨34, _⟩ => ⟨S4x4094x5632, .f32⟩
  | .hbm, ⟨35, _⟩ => ⟨S4x4096x5632, .f32⟩
  | .hbm, ⟨36, _⟩ => ⟨S1x5632, .f32⟩
  | .hbm, ⟨37, _⟩ => ⟨S5632, .f32⟩
  | .hbm, ⟨38, _⟩ => ⟨S1x1x5632, .f32⟩
  | .hbm, ⟨39, _⟩ => ⟨S4x4096x5632, .f32⟩
  | .hbm, ⟨40, _⟩ => ⟨S4x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S4x4096x5632, .f32⟩
  | .hbm, ⟨45, _⟩ => ⟨S4x4096x5632, .f32⟩
  | .hbm, ⟨46, _⟩ => ⟨S4x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S4x4096x2816, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S_, .f32⟩
  | .hbm, ⟨61, _⟩ => ⟨S4x4096x2816, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S1x2816x1024, .f32⟩
  | .hbm, ⟨66, _⟩ => ⟨S2816x1024, .f32⟩
  | .hbm, ⟨67, _⟩ => ⟨S4x4096x1024, .f32⟩
  | .hbm, ⟨68, _⟩ => ⟨S4x4096x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Merge.lean ====
abbrev S16384x1024 : Shape := ⟨2, ![16384, 1024]⟩
abbrev S16384x12800 : Shape := ⟨2, ![16384, 12800]⟩
abbrev S2x3x1024 : Shape := ⟨3, ![2, 3, 1024]⟩
abbrev S2x1024x1024 : Shape := ⟨3, ![2, 1024, 1024]⟩
abbrev S1x3x1024 : Shape := ⟨3, ![1, 3, 1024]⟩
abbrev S3x1024 : Shape := ⟨2, ![3, 1024]⟩
abbrev S128x48 : Shape := ⟨2, ![128, 48]⟩
abbrev S128x48x1 : Shape := ⟨3, ![128, 48, 1]⟩
abbrev S128x48x64 : Shape := ⟨3, ![128, 48, 64]⟩
abbrev S128x3072 : Shape := ⟨2, ![128, 3072]⟩
abbrev S512x1024 : Shape := ⟨2, ![512, 1024]⟩
abbrev S8x1024 : Shape := ⟨2, ![8, 1024]⟩
abbrev S512x128 : Shape := ⟨2, ![512, 128]⟩
abbrev S1x1024x1024 : Shape := ⟨3, ![1, 1024, 1024]⟩
abbrev S1x1024 : Shape := ⟨2, ![1, 1024]⟩
abbrev S504x1024 : Shape := ⟨2, ![504, 1024]⟩
abbrev S512x3072 : Shape := ⟨2, ![512, 3072]⟩
abbrev S1024x1024 : Shape := ⟨2, ![1024, 1024]⟩

abbrev nBuf : Space → Nat
  | .hbm => 25
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x12800, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S2x3x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S1x3x1024, .f32⟩
  | .hbm, ⟨12, _⟩ => ⟨S3x1024, .f32⟩
  | .hbm, ⟨13, _⟩ => ⟨S128x48, .i32⟩
  | .hbm, ⟨14, _⟩ => ⟨S128x48, .i32⟩
  | .hbm, ⟨15, _⟩ => ⟨S128x48, .i1⟩
  | .hbm, ⟨16, _⟩ => ⟨S128x48, .bf16⟩
  | .hbm, ⟨17, _⟩ => ⟨S128x48x1, .bf16⟩
  | .hbm, ⟨18, _⟩ => ⟨S128x48x64, .bf16⟩
  | .hbm, ⟨19, _⟩ => ⟨S128x3072, .bf16⟩
  | .hbm, ⟨20, _⟩ => ⟨S2x1024x1024, .bf16⟩
  | .hbm, ⟨21, _⟩ => ⟨S2x1024x1024, .bf16⟩
  | .hbm, ⟨22, _⟩ => ⟨S2x1024x1024, .bf16⟩
  | .hbm, ⟨23, _⟩ => ⟨S2x1024x1024, .bf16⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .bf16⟩
  | .local _ .vmem, ⟨11, _⟩ => ⟨S8x1024, .bf16⟩
  | .local _ .vmem, ⟨12, _⟩ => ⟨S8x1024, .bf16⟩
  | .local _ .vmem, ⟨13, _⟩ => ⟨S8x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x128, .bf16⟩
  | .local _ .vmem, ⟨21, _⟩ => ⟨S512x128, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S3x1024, .f32⟩
  | .local _ .vmem, ⟨29, _⟩ => ⟨S128x3072, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1x1024x1024, .bf16⟩
  | .local _ .vmem, ⟨33, _⟩ => ⟨S1x1024x1024, .bf16⟩
  | .local _ .vmem, ⟨34, _⟩ => ⟨S512x1024, .f32⟩
  | .local _ .vmem, ⟨35, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c96_i32 : BitVec 32 := 96#32
  let c0_i32 : BitVec 32 := 0#32
  ![arg0.toNat, c96_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x3072 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MergeRefIdeal.lean ====
abbrev S16384x1024 : Shape := ⟨2, ![16384, 1024]⟩
abbrev S16384x12800 : Shape := ⟨2, ![16384, 12800]⟩
abbrev S2x3x1024 : Shape := ⟨3, ![2, 3, 1024]⟩
abbrev S2x1024x1024 : Shape := ⟨3, ![2, 1024, 1024]⟩
abbrev S4x4096x1024 : Shape := ⟨3, ![4, 4096, 1024]⟩
abbrev S4x4096x12800 : Shape := ⟨3, ![4, 4096, 12800]⟩
abbrev S4x4096x3072 : Shape := ⟨3, ![4, 4096, 3072]⟩
abbrev S4x4096x48 : Shape := ⟨3, ![4, 4096, 48]⟩
abbrev S_ : Shape := ⟨0, ![]⟩
abbrev S4x4096x3x16 : Shape := ⟨4, ![4, 4096, 3, 16]⟩
abbrev S1x3x1024 : Shape := ⟨3, ![1, 3, 1024]⟩
abbrev S3x1024 : Shape := ⟨2, ![3, 1024]⟩
abbrev S4x1x1024 : Shape := ⟨3, ![4, 1, 1024]⟩
abbrev S4x4095x1024 : Shape := ⟨3, ![4, 4095, 1024]⟩
abbrev S4x2x1024 : Shape := ⟨3, ![4, 2, 1024]⟩
abbrev S4x4094x1024 : Shape := ⟨3, ![4, 4094, 1024]⟩
abbrev S1x1024 : Shape := ⟨2, ![1, 1024]⟩
abbrev S1024 : Shape := ⟨1, ![1024]⟩
abbrev S1x1x1024 : Shape := ⟨3, ![1, 1, 1024]⟩
abbrev S4x4096x16x64 : Shape := ⟨4, ![4, 4096, 16, 64]⟩
abbrev S4x4096x1x16 : Shape := ⟨4, ![4, 4096, 1, 16]⟩
abbrev S4x4096x16 : Shape := ⟨3, ![4, 4096, 16]⟩
abbrev S4x4096x16x1 : Shape := ⟨4, ![4, 4096, 16, 1]⟩
abbrev S1x1024x1024 : Shape := ⟨3, ![1, 1024, 1024]⟩
abbrev S1024x1024 : Shape := ⟨2, ![1024, 1024]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x12800, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S2x3x1024, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S4x4096x1024, .f32⟩
  | .hbm, ⟨12, _⟩ => ⟨S16384x12800, .f32⟩
  | .hbm, ⟨13, _⟩ => ⟨S4x4096x12800, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x3072, .f32⟩
  | .hbm, ⟨18, _⟩ => ⟨S4x4096x48, .f32⟩
  | .hbm, ⟨19, _⟩ => ⟨S4x4096x48, .f32⟩
  | .hbm, ⟨20, _⟩ => ⟨S4x4096x48, .f32⟩
  | .hbm, ⟨21, _⟩ => ⟨S_, .f32⟩
  | .hbm, ⟨22, _⟩ => ⟨S4x4096x48, .f32⟩
  | .hbm, ⟨23, _⟩ => ⟨S4x4096x48, .f32⟩
  | .hbm, ⟨24, _⟩ => ⟨S_, .f32⟩
  | .hbm, ⟨25, _⟩ => ⟨S4x4096x48, .f32⟩
  | .hbm, ⟨26, _⟩ => ⟨S4x4096x48, .f32⟩
  | .hbm, ⟨27, _⟩ => ⟨S4x4096x3x16, .f32⟩
  | .hbm, ⟨28, _⟩ => ⟨S4x4096x1024, .f32⟩
  | .hbm, ⟨29, _⟩ => ⟨S1x3x1024, .f32⟩
  | .hbm, ⟨30, _⟩ => ⟨S3x1024, .f32⟩
  | .hbm, ⟨31, _⟩ => ⟨S_, .f32⟩
  | .hbm, ⟨32, _⟩ => ⟨S4x1x1024, .f32⟩
  | .hbm, ⟨33, _⟩ => ⟨S4x4095x1024, .f32⟩
  | .hbm, ⟨34, _⟩ => ⟨S4x4096x1024, .f32⟩
  | .hbm, ⟨35, _⟩ => ⟨S_, .f32⟩
  | .hbm, ⟨36, _⟩ => ⟨S4x2x1024, .f32⟩
  | .hbm, ⟨37, _⟩ => ⟨S4x4094x1024, .f32⟩
  | .hbm, ⟨38, _⟩ => ⟨S4x4096x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S1x1024, .f32⟩
  | .hbm, ⟨45, _⟩ => ⟨S1024, .f32⟩
  | .hbm, ⟨46, _⟩ => ⟨S1x1x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S1x1024, .f32⟩
  | .hbm, ⟨51, _⟩ => ⟨S1024, .f32⟩
  | .hbm, ⟨52, _⟩ => ⟨S1x1x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S16384x1024, .f32⟩
  | .hbm, ⟨58, _⟩ => ⟨S4x4096x16x64, .f32⟩
  | .hbm, ⟨59, _⟩ => ⟨S16384x1024, .f32⟩
  | .hbm, ⟨60, _⟩ => ⟨S4x4096x16x64, .f32⟩
  | .hbm, ⟨61, _⟩ => ⟨S16384x1024, .f32⟩
  | .hbm, ⟨62, _⟩ => ⟨S4x4096x16x64, .f32⟩
  | .hbm, ⟨63, _⟩ => ⟨S4x4096x1x16, .f32⟩
  | .hbm, ⟨64, _⟩ => ⟨S4x4096x16, .f32⟩
  | .hbm, ⟨65, _⟩ => ⟨S4x4096x16x1, .f32⟩
  | .hbm, ⟨66, _⟩ => ⟨S4x4096x16x64, .f32⟩
  | .hbm, ⟨67, _⟩ => ⟨S4x4096x16x64, .f32⟩
  | .hbm, ⟨68, _⟩ => ⟨S4x4096x1x16, .f32⟩
  | .hbm, ⟨69, _⟩ => ⟨S4x4096x16, .f32⟩
  | .hbm, ⟨70, _⟩ => ⟨S4x4096x16x1, .f32⟩
  | .hbm, ⟨71, _⟩ => ⟨S4x4096x16x64, .f32⟩
  | .hbm, ⟨72, _⟩ => ⟨S4x4096x16x64, .f32⟩
  | .hbm, ⟨73, _⟩ => ⟨S4x4096x16x64, .f32⟩
  | .hbm, ⟨74, _⟩ => ⟨S4x4096x1x16, .f32⟩
  | .hbm, ⟨75, _⟩ => ⟨S4x4096x16, .f32⟩
  | .hbm, ⟨76, _⟩ => ⟨S4x4096x16x1, .f32⟩
  | .hbm, ⟨77, _⟩ => ⟨S4x4096x16x64, .f32⟩
  | .hbm, ⟨78, _⟩ => ⟨S4x4096x16x64, .f32⟩
  | .hbm, ⟨79, _⟩ => ⟨S4x4096x16x64, .f32⟩
  | .hbm, ⟨80, _⟩ => ⟨S4x4096x1024, .f32⟩
  | .hbm, ⟨81, _⟩ => ⟨S4x4096x3072, .f32⟩
  | .hbm, ⟨82, _⟩ => ⟨S4x4096x3072, .f32⟩
  | .hbm, ⟨83, _⟩ => ⟨S_, .f32⟩
  | .hbm, ⟨84, _⟩ => ⟨S4x4096x3072, .f32⟩
  | .hbm, ⟨85, _⟩ => ⟨S4x4096x3072, .f32⟩
  | .hbm, ⟨86, _⟩ => ⟨S_, .f32⟩
  | .hbm, ⟨87, _⟩ => ⟨S4x4096x3072, .f32⟩
  | .hbm, ⟨88, _⟩ => ⟨S4x4096x3072, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S16384x1024, .f32⟩
  | .hbm, ⟨93, _⟩ => ⟨S4x4096x1024, .f32⟩
  | .hbm, ⟨94, _⟩ => ⟨S1x1024x1024, .f32⟩
  | .hbm, ⟨95, _⟩ => ⟨S1024x1024, .f32⟩
  | .hbm, ⟨96, _⟩ => ⟨S4x4096x1024, .f32⟩
  | .hbm, ⟨97, _⟩ => ⟨S4x4096x1024, .f32⟩
  | .hbm, ⟨98, _⟩ => ⟨S1x1024x1024, .f32⟩
  | .hbm, ⟨99, _⟩ => ⟨S1024x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S1x1024x1024, .f32⟩
  | .hbm, ⟨104, _⟩ => ⟨S1024x1024, .f32⟩
  | .hbm, ⟨105, _⟩ => ⟨S4x4096x1024, .f32⟩
  | .hbm, ⟨106, _⟩ => ⟨S4x4096x1024, .f32⟩
  | .hbm, ⟨107, _⟩ => ⟨S4x4096x1024, .f32⟩
  | .hbm, ⟨108, _⟩ => ⟨S1x1024x1024, .f32⟩
  | .hbm, ⟨109, _⟩ => ⟨S1024x1024, .f32⟩
  | .hbm, ⟨110, _⟩ => ⟨S4x4096x1024, .f32⟩
  | .hbm, ⟨111, _⟩ => ⟨S4x4096x1024, .f32⟩
  | .hbm, ⟨112, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_3 : Ref sig .tc := ⟨.hbm, 83, rfl⟩
abbrev main_v68 : Ref sig .tc := ⟨.hbm, 84, rfl⟩
abbrev main_v69 : Ref sig .tc := ⟨.hbm, 85, rfl⟩
abbrev main_cst_4 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩

abbrev nD : Nat := 1
abbrev τ : Topo := Topo.v7x

variable {F : FTy → Type} [FloatOps F]
-- ==== Proof.RetentionBlock.lean ====
/-
  What one grid point of the retention kernel leaves: the output block and the carried state.

  A point takes 512 rows of one sequence, four chunks of 128 rows, and for each chunk the four heads. A head's state
  enters a chunk, gives that chunk's rows their contribution from before the chunk, and leaves updated (`stepS`);
  `blockO` is the chunk's rows of the result. `out_B` and `out_A` say that the block's piece for chunk `ci` and head `h`
  is `blockO` of the state after `ci` chunks, and `sout_B` and `sout_A` that the state after the fourth chunk is left in
  the scratch: from what the scratch held (case B) or from zero (case A, the first point of a sequence).
-/
module

public import proofs.«01_k».proof.Proof.Gen.KernelIdeal.Value
public import Idealize.ShloMosaic.Lib.Pointwise
public import Idealize.ShloMosaic.Lib.Pipeline.ReadBack

@[expose] public section

set_option maxRecDepth 16384
set_option maxHeartbeats 400000

noncomputable section

namespace Cert.KernelIdeal.Value

open Cert.KernelIdeal Cert.KernelIdeal.Gen Idealize.ShloMosaic Idealize.ShloMosaic.TcCoe Idealize.SL.Sem

variable {F : FTy → Type} [FloatOps F]

/-- A head's state after a chunk, from the state before it: decayed, plus the chunk's keys against its values. -/
def stepS (cos sin : Vec F S128x128 .f32) (k : Vec F S128x128 .bf16) (v : Vec F S128x256 .bf16)
    (zeta dec st : Vec F S1x128x256 .f32) : FVec F S1x128x256 .f32 :=
  k0_pay10 (k0_pay5 cos sin k) v (k0_pay8 st) zeta dec

/-- A chunk's rows of one head of the result, from the state before the chunk. -/
def blockO (cos sin : Vec F S128x128 .f32) (q k : Vec F S128x128 .bf16) (v g : Vec F S128x256 .bf16)
    (dm : Vec F S1x128x128 .f32) (xi : Vec F S1x128x256 .f32) (nw : Vec F S1x256 .f32) (st : Vec F S1x128x256 .f32) :
    FVec F S128x256 .bf16 :=
  k0_pay13 (k0_pay11 (k0_pay6 cos sin q) (k0_pay7 cos sin q k v dm) (k0_pay9 st)
    (constant S128x256 .f32 0x00000000#32) xi) (k0_pay12 nw) g

theorem inbQ : ∀ (ci h : Fin 4) (a : Fin 2), (![128 * ci.val, 128 * h.val] : Fin 2 → ℕ) a + S128x128.size a ≤ S512x512.size a := by
  decide
theorem inbV : ∀ (ci h : Fin 4) (a : Fin 2), (![128 * ci.val, 256 * h.val] : Fin 2 → ℕ) a + S128x256.size a ≤ S512x1024.size a := by
  decide
theorem inbC : ∀ (ci : Fin 4) (a : Fin 2), (![128 * ci.val, 0] : Fin 2 → ℕ) a + S128x128.size a ≤ S512x128.size a := by
  decide
theorem inbM : ∀ (h : Fin 4) (a : Fin 3), (![h.val, 0, 0] : Fin 3 → ℕ) a + S1x128x128.size a ≤ S4x128x128.size a := by
  decide
theorem inbS : ∀ (h : Fin 4) (a : Fin 3), (![h.val, 0, 0] : Fin 3 → ℕ) a + S1x128x256.size a ≤ S4x128x256.size a := by
  decide
theorem inbN : ∀ (h : Fin 4) (a : Fin 2), (![0, 256 * h.val] : Fin 2 → ℕ) a + S1x256.size a ≤ S1x1024.size a := by
  decide

/-- Head `h` of a buffer of four heads. -/
def headS (x : Vec F S4x128x256 .f32) (h : Fin 4) : Vec F S1x128x256 .f32 :=
  View.ld x (Rect.unit (s := S4x128x256) ![h.val, 0, 0] S1x128x256.size (inbS h))

section Point
variable (x0 : Vec F S512x512 .bf16) (x1 : Vec F S512x512 .bf16) (x2 : Vec F S512x1024 .bf16) (x3 : Vec F S512x1024 .bf16)
  (x4 : Vec F S512x128 .f32) (x5 : Vec F S512x128 .f32) (x6 : Vec F S4x128x128 .f32) (x7 : Vec F S4x128x256 .f32)
  (x8 : Vec F S4x128x256 .f32) (x9 : Vec F S4x128x256 .f32) (x10 : Vec F S1x1024 .f32)
  (s0 : Fin 4 → Vec F S1x128x256 .f32)

/-- Head `h`'s state after the point's first `n` chunks. -/
def stateN : ℕ → Fin 4 → Vec F S1x128x256 .f32
  | 0, h => s0 h
  | n + 1, h =>
    stepS (View.ld x4 (Rect.unit (s := S512x128) ![128 * (Fin.ofNat 4 n).val, 0] S128x128.size (inbC (Fin.ofNat 4 n))))
      (View.ld x5 (Rect.unit (s := S512x128) ![128 * (Fin.ofNat 4 n).val, 0] S128x128.size (inbC (Fin.ofNat 4 n))))
      (View.ld x1 (Rect.unit (s := S512x512) ![128 * (Fin.ofNat 4 n).val, 128 * h.val] S128x128.size (inbQ (Fin.ofNat 4 n) h)))
      (View.ld x2 (Rect.unit (s := S512x1024) ![128 * (Fin.ofNat 4 n).val, 256 * h.val] S128x256.size (inbV (Fin.ofNat 4 n) h)))
      (headS x7 h) (headS x9 h) (stateN n h)

/-- Chunk `ci`, head `h` of the point's output block. -/
def outO (ci h : Fin 4) : Vec F S128x256 .bf16 :=
  blockO (View.ld x4 (Rect.unit (s := S512x128) ![128 * ci.val, 0] S128x128.size (inbC ci)))
    (View.ld x5 (Rect.unit (s := S512x128) ![128 * ci.val, 0] S128x128.size (inbC ci)))
    (View.ld x0 (Rect.unit (s := S512x512) ![128 * ci.val, 128 * h.val] S128x128.size (inbQ ci h)))
    (View.ld x1 (Rect.unit (s := S512x512) ![128 * ci.val, 128 * h.val] S128x128.size (inbQ ci h)))
    (View.ld x2 (Rect.unit (s := S512x1024) ![128 * ci.val, 256 * h.val] S128x256.size (inbV ci h)))
    (View.ld x3 (Rect.unit (s := S512x1024) ![128 * ci.val, 256 * h.val] S128x256.size (inbV ci h)))
    (View.ld x6 (Rect.unit (s := S4x128x128) ![h.val, 0, 0] S1x128x128.size (inbM h)))
    (headS x8 h) (View.ld x10 (Rect.unit (s := S1x1024) ![0, 256 * h.val] S1x256.size (inbN h)))
    (stateN x1 x2 x4 x5 x7 x9 s0 ci.val h)

/-- The point's output block. -/
def blockOut : Vec F S512x1024 .bf16 := fun y =>
  outO x0 x1 x2 x3 x4 x5 x6 x7 x8 x9 x10 s0 ⟨(y 0).val / 128, by have : (y 0).val < 512 := (y 0).isLt; omega⟩
    ⟨(y 1).val / 256, by have : (y 1).val < 1024 := (y 1).isLt; omega⟩
    (ix2 (⟨(y 0).val % 128, Nat.mod_lt _ (by decide)⟩ : Fin 128) (⟨(y 1).val % 256, Nat.mod_lt _ (by decide)⟩ : Fin 256))

/-- The state buffer the point leaves. -/
def blockS : Vec F S4x128x256 .f32 := fun y =>
  stateN x1 x2 x4 x5 x7 x9 s0 4 (y 0) (ix3 (0 : Fin 1) (y 1 : Fin 128) (y 2 : Fin 256))

theorem blockOut_emb (ci h : Fin 4) (x : S128x256.Idx) :
    blockOut x0 x1 x2 x3 x4 x5 x6 x7 x8 x9 x10 s0
      ((Rect.unit (s := S512x1024) ![128 * ci.val, 256 * h.val] S128x256.size (inbV ci h)).emb x)
      = outO x0 x1 x2 x3 x4 x5 x6 x7 x8 x9 x10 s0 ci h x := by
  have hx0 : (x 0).val < 128 := (x 0).isLt
  have hx1 : (x 1).val < 256 := (x 1).isLt
  refine congr (congr (congrArg (outO x0 x1 x2 x3 x4 x5 x6 x7 x8 x9 x10 s0) ?_) ?_) ?_
  · exact Fin.ext (show (128 * ci.val + 1 * (x 0).val) / 128 = ci.val by omega)
  · exact Fin.ext (show (256 * h.val + 1 * (x 1).val) / 256 = h.val by omega)
  · funext a
    apply Fin.ext
    match a with
    | ⟨0, _⟩ => show (128 * ci.val + 1 * (x 0).val) % 128 = (x 0).val; omega
    | ⟨1, _⟩ => show (256 * h.val + 1 * (x 1).val) % 256 = (x 1).val; omega

theorem blockS_emb (h : Fin 4) (x : S1x128x256.Idx) :
    blockS x1 x2 x4 x5 x7 x9 s0 ((Rect.unit (s := S4x128x256) ![h.val, 0, 0] S1x128x256.size (inbS h)).emb x)
      = stateN x1 x2 x4 x5 x7 x9 s0 4 h x := by
  have hx0 : (x 0).val < 1 := (x 0).isLt
  refine congr (congrArg (stateN x1 x2 x4 x5 x7 x9 s0 4) ?_) ?_
  · exact Fin.ext (show h.val + 1 * (x 0).val = h.val by omega)
  · funext a
    apply Fin.ext
    match a with
    | ⟨0, _⟩ => show 0 = (x 0).val; omega
    | ⟨1, _⟩ => show 0 + 1 * (x 1).val = (x 1).val; omega
    | ⟨2, _⟩ => show 0 + 1 * (x 2).val = (x 2).val; omega

end Point

section Cases
variable (c : Dev nD) (i : grid0.Coords) (a2 : Memref sig .tc .vmem S512x512 .bf16) (h2 : a2.IsWhole)
  (a3 : Memref sig .tc .vmem S512x512 .bf16) (h3 : a3.IsWhole) (a4 : Memref sig .tc .vmem S512x1024 .bf16) (h4 : a4.IsWhole)
  (a5 : Memref sig .tc .vmem S512x1024 .bf16) (h5 : a5.IsWhole) (a6 : Memref sig .tc .vmem S512x128 .f32) (h6 : a6.IsWhole)
  (a7 : Memref sig .tc .vmem S512x128 .f32) (h7 : a7.IsWhole) (a8 : Memref sig .tc .vmem S4x128x128 .f32) (h8 : a8.IsWhole)
  (a9 : Memref sig .tc .vmem S4x128x256 .f32) (h9 : a9.IsWhole) (a10 : Memref sig .tc .vmem S4x128x256 .f32) (h10 : a10.IsWhole)
  (a11 : Memref sig .tc .vmem S4x128x256 .f32) (h11 : a11.IsWhole) (a12 : Memref sig .tc .vmem S1x1024 .f32) (h12 : a12.IsWhole)
  (a13 : Memref sig .tc .vmem S512x1024 .bf16) (h13 : a13.IsWhole) (a14 : Memref sig .tc .vmem S4x128x256 .f32) (h14 : a14.IsWhole)
  (x0 : Vec F S512x512 .bf16) (x1 : Vec F S512x512 .bf16) (x2 : Vec F S512x1024 .bf16) (x3 : Vec F S512x1024 .bf16)
  (x4 : Vec F S512x128 .f32) (x5 : Vec F S512x128 .f32) (x6 : Vec F S4x128x128 .f32) (x7 : Vec F S4x128x256 .f32)
  (x8 : Vec F S4x128x256 .f32) (x9 : Vec F S4x128x256 .f32) (x10 : Vec F S1x1024 .f32)

/-- A later point of a sequence: the output block, over the state the scratch holds. -/
theorem out_B (hc : ¬cond0_0 i) (xs : Vec F S4x128x256 .f32) :
    out0_B_11 c i a2 h2 a3 h3 a4 h4 a5 h5 a6 h6 a7 h7 a8 h8 a9 h9 a10 h10 a11 h11 a12 h12 a13 h13 a14 h14 hc
      x0 x1 x2 x3 x4 x5 x6 x7 x8 x9 x10 xs = blockOut x0 x1 x2 x3 x4 x5 x6 x7 x8 x9 x10 (headS xs) := by
  unfold out0_B_11
  rw [View.read_writes_junk_eq_canon]
  funext y
  refine View.canon_apply_of_pieces _ _ (View.PiecesOf.mem ?_) y
    (cover0_B_11 c i a2 h2 a3 h3 a4 h4 a5 h5 a6 h6 a7 h7 a8 h8 a9 h9 a10 h10 a11 h11 a12 h12 a13 h13 a14 h14 hc
      x0 x1 x2 x3 x4 x5 x6 x7 x8 x9 x10 xs y)
  unfold kernelRun0_B
  dsimp only
  sl_unfold_words
  simp (decide := true) only [View.readAt_eq_ld, h2.read_unread, h3.read_unread, h4.read_unread, h5.read_unread, h6.read_unread,
    h7.read_unread, h8.read_unread, h9.read_unread, h10.read_unread, h11.read_unread, h12.read_unread, h14.read_unread,
    View.readCov_cons_toLoadRect, ↓View.readCov_skip]
  have e := fun ci h x => (blockOut_emb x0 x1 x2 x3 x4 x5 x6 x7 x8 x9 x10 (headS xs) ci h x).symm
  exact ⟨e 3 3, e 3 2, e 3 1, e 3 0, e 2 3, e 2 2, e 2 1, e 2 0, e 1 3, e 1 2, e 1 1, e 1 0, e 0 3, e 0 2, e 0 1, e 0 0, trivial⟩

/-- … and the state it leaves in the scratch. -/
theorem sout_B (hc : ¬cond0_0 i) (xs : Vec F S4x128x256 .f32) :
    sout0_B_0 c i a2 h2 a3 h3 a4 h4 a5 h5 a6 h6 a7 h7 a8 h8 a9 h9 a10 h10 a11 h11 a12 h12 a13 h13 a14 h14 hc
      x0 x1 x2 x3 x4 x5 x6 x7 x8 x9 x10 xs = blockS x1 x2 x4 x5 x7 x9 (headS xs) := by
  unfold sout0_B_0
  rw [View.read_writes_junk_eq_canon]
  unfold kernelRun0_B
  dsimp only
  sl_unfold_words
  simp (decide := true) only [View.readAt_eq_ld, h2.read_unread, h3.read_unread, h4.read_unread, h5.read_unread, h6.read_unread,
    h7.read_unread, h8.read_unread, h9.read_unread, h10.read_unread, h11.read_unread, h12.read_unread, h14.read_unread,
    View.readCov_cons_toLoadRect, ↓View.readCov_skip]
  funext y
  have e := fun h x => (blockS_emb x1 x2 x4 x5 x7 x9 (headS xs) h x).symm
  refine View.canon_append_of_piecesOf _ _ [_, _, _, _] ⟨e 3, e 2, e 1, e 0, trivial⟩ y ?_
  exact View.cover_of_tiled (s := S4x128x256) _ S1x128x256.size (by sl_kernel_rfl) y

/-- The first point of a sequence: the output block, over the zero state. -/
theorem out_A (hc : cond0_0 i) :
    out0_A_11 c i a2 h2 a3 h3 a4 h4 a5 h5 a6 h6 a7 h7 a8 h8 a9 h9 a10 h10 a11 h11 a12 h12 a13 h13 a14 h14 hc
      x0 x1 x2 x3 x4 x5 x6 x7 x8 x9 x10 = blockOut x0 x1 x2 x3 x4 x5 x6 x7 x8 x9 x10 (headS k0_pay2) := by
  unfold out0_A_11
  rw [View.read_writes_junk_eq_canon]
  funext y
  refine View.canon_apply_of_pieces _ _ (View.PiecesOf.mem ?_) y
    (cover0_A_11 c i a2 h2 a3 h3 a4 h4 a5 h5 a6 h6 a7 h7 a8 h8 a9 h9 a10 h10 a11 h11 a12 h12 a13 h13 a14 h14 hc
      x0 x1 x2 x3 x4 x5 x6 x7 x8 x9 x10 y)
  unfold kernelRun0_A
  dsimp only
  sl_unfold_words
  simp (decide := true) only [View.readAt_eq_ld, h2.read_unread, h3.read_unread, h4.read_unread, h5.read_unread, h6.read_unread,
    h7.read_unread, h8.read_unread, h9.read_unread, h10.read_unread, h11.read_unread, h12.read_unread, h14.read_unread,
    View.readCov_cons_toLoadRect, ↓View.readCov_skip, View.readCov_fill]
  have e := fun ci h x => (blockOut_emb x0 x1 x2 x3 x4 x5 x6 x7 x8 x9 x10 (headS k0_pay2) ci h x).symm
  exact ⟨e 3 3, e 3 2, e 3 1, e 3 0, e 2 3, e 2 2, e 2 1, e 2 0, e 1 3, e 1 2, e 1 1, e 1 0, e 0 3, e 0 2, e 0 1, e 0 0, trivial⟩

/-- … and the state it leaves in the scratch. -/
theorem sout_A (hc : cond0_0 i) :
    sout0_A_0 c i a2 h2 a3 h3 a4 h4 a5 h5 a6 h6 a7 h7 a8 h8 a9 h9 a10 h10 a11 h11 a12 h12 a13 h13 a14 h14 hc
      x0 x1 x2 x3 x4 x5 x6 x7 x8 x9 x10 = blockS x1 x2 x4 x5 x7 x9 (headS k0_pay2) := by
  unfold sout0_A_0
  rw [View.read_writes_junk_eq_canon]
  unfold kernelRun0_A
  dsimp only
  sl_unfold_words
  simp (decide := true) only [View.readAt_eq_ld, h2.read_unread, h3.read_unread, h4.read_unread, h5.read_unread, h6.read_unread,
    h7.read_unread, h8.read_unread, h9.read_unread, h10.read_unread, h11.read_unread, h12.read_unread, h14.read_unread,
    View.readCov_cons_toLoadRect, ↓View.readCov_skip, View.readCov_fill]
  funext y
  have e := fun h x => (blockS_emb x1 x2 x4 x5 x7 x9 (headS k0_pay2) h x).symm
  refine View.canon_append_of_piecesOf _ _ [_, _, _, _] ⟨e 3, e 2, e 1, e 0, trivial⟩ y ?_
  exact View.cover_of_tiled (s := S4x128x256) _ S1x128x256.size (by sl_kernel_rfl) y

end Cases

end Cert.KernelIdeal.Value
-- ==== Proof.RetentionMath.lean ====
/-
  The retention of one head, as a function of a table of numbers.

  `Args` is what it is computed from: the projected activations and the tables of the rotary embedding, of the decay
  inside a chunk, of the two decays that join a chunk to the state and of the decay of the state over a chunk. A sequence
  is 32 chunks of 128 rows. `state` is a head's state before a chunk, `mixed` a row's sum over the keys of its chunk plus
  what it reads from that state, `result` the group-normed and gated row.
-/
module

public import Idealize.ShloMosaic.Lib.Pointwise

@[expose] public section

noncomputable section

namespace Cert.Retention

open Idealize.ShloMosaic

/-- What the retention is computed from. -/
structure Args where
  /-- The projected activations: a row of a batch of four sequences, a column. -/
  z : Fin 16384 → Fin 12800 → EReal
  /-- The rotary embedding's cosine and sine of a position, for half a head. -/
  cos : Fin 4096 → Fin 64 → EReal
  sin : Fin 4096 → Fin 64 → EReal
  /-- The decay between two rows of a chunk, zero above the diagonal. -/
  dm : Fin 4 → Fin 128 → Fin 128 → EReal
  /-- The decay from a row to the end of its chunk. -/
  zeta : Fin 4 → Fin 128 → EReal
  /-- The decay from the start of a chunk to a row. -/
  xi : Fin 4 → Fin 128 → EReal
  /-- The decay over a chunk. -/
  dec : Fin 4 → EReal
  /-- The group norm's weights. -/
  nw : Fin 1024 → EReal

/-- Row `r` of chunk `n` of sequence `b`. -/
def row (b : Fin 4) (n : Fin 32) (r : Fin 128) : Fin 16384 := ⟨b.val * 4096 + (n.val * 128 + r.val), by omega⟩

/-- Its position in the sequence. -/
def pos (n : Fin 32) (r : Fin 128) : Fin 4096 := ⟨n.val * 128 + r.val, by omega⟩

/-- A head's row turned by its position: the first half against the second. -/
def rotary (x : Fin 128 → EReal) (c s : Fin 64 → EReal) (d : Fin 128) : EReal :=
  if h : d.val < 64 then x d * c ⟨d.val, h⟩ - x ⟨64 + d.val, by omega⟩ * s ⟨d.val, h⟩
  else x ⟨d.val - 64, by omega⟩ * s ⟨d.val - 64, by omega⟩ + x ⟨64 + (d.val - 64), by omega⟩ * c ⟨d.val - 64, by omega⟩

/-- The same with the two halves joined first: each entry against the one half a head away, the sine negated on the
    first half. -/
theorem rotary_eq (x : Fin 128 → EReal) (c s : Fin 64 → EReal) (d : Fin 128) :
    x d * (if h : d.val < 64 then c ⟨d.val, h⟩ else c ⟨d.val - 64, by omega⟩)
      + x ⟨(d.val + 128 - 64) % 128, Nat.mod_lt _ (by decide)⟩ * (if h : d.val < 64 then -s ⟨d.val, h⟩ else s ⟨d.val - 64, by omega⟩)
      = rotary x c s d := by
  unfold rotary
  by_cases h : d.val < 64
  · rw [dif_pos h, dif_pos h, dif_pos h, mul_neg, ← sub_eq_add_neg]
    have e : (⟨(d.val + 128 - 64) % 128, Nat.mod_lt _ (by decide)⟩ : Fin 128) = ⟨64 + d.val, by omega⟩ :=
      Fin.ext (by show (d.val + 128 - 64) % 128 = 64 + d.val; omega)
    rw [e]
  · rw [dif_neg h, dif_neg h, dif_neg h, add_comm]
    have e : (⟨(d.val + 128 - 64) % 128, Nat.mod_lt _ (by decide)⟩ : Fin 128) = ⟨d.val - 64, by omega⟩ :=
      Fin.ext (by show (d.val + 128 - 64) % 128 = d.val - 64; omega)
    have e' : (⟨64 + (d.val - 64), by omega⟩ : Fin 128) = d := Fin.ext (by show 64 + (d.val - 64) = d.val; omega)
    rw [e, e']

variable (A : Args) (b : Fin 4) (n : Fin 32)

/-- The turned queries, the turned and scaled keys, the values and the gate. -/
def q (r : Fin 128) (h : Fin 4) (d : Fin 128) : EReal :=
  rotary (fun d' => A.z (row b n r) ⟨h.val * 128 + d'.val, by omega⟩) (A.cos (pos n r)) (A.sin (pos n r)) d
def k (r : Fin 128) (h : Fin 4) (d : Fin 128) : EReal :=
  rotary (fun d' => A.z (row b n r) ⟨512 + (h.val * 128 + d'.val), by omega⟩) (A.cos (pos n r)) (A.sin (pos n r)) d
    * Ideal.ofBits .f32 0x3DB504F3#32
def v (r : Fin 128) (h : Fin 4) (e : Fin 256) : EReal := A.z (row b n r) ⟨1024 + (h.val * 256 + e.val), by omega⟩
def g (r : Fin 128) (h : Fin 4) (e : Fin 256) : EReal := A.z (row b n r) ⟨2048 + (h.val * 256 + e.val), by omega⟩

/-- What a chunk adds to a head's state. -/
def kv (h : Fin 4) (d : Fin 128) (e : Fin 256) : EReal := ∑ r : Fin 128, k A b n r h d * (v A b n r h e * A.zeta h r)

/-- A head's state after `i` chunks. -/
def state (h : Fin 4) (d : Fin 128) (e : Fin 256) : ℕ → EReal
  | 0 => 0
  | i + 1 => state h d e i * A.dec h + kv A b (Fin.ofNat 32 i) h d e

theorem state_succ (h : Fin 4) (d : Fin 128) (e : Fin 256) (i : ℕ) :
    state A b h d e (i + 1) = state A b h d e i * A.dec h + kv A b (Fin.ofNat 32 i) h d e := rfl

/-- A row of a head before its norm: its chunk's values by the decayed scores, and the state by its query. -/
def mixed (r : Fin 128) (h : Fin 4) (e : Fin 256) : EReal :=
  (∑ r' : Fin 128, (∑ d : Fin 128, q A b n r h d * k A b n r' h d) * A.dm h r r' * v A b n r' h e)
    + (∑ d : Fin 128, q A b n r h d * state A b h d e n.val) * A.xi h r

/-- The same with the factors of each product in the other order. -/
theorem mixed_eq (r : Fin 128) (h : Fin 4) (e : Fin 256) :
    (∑ r' : Fin 128, v A b n r' h e * ((∑ d : Fin 128, q A b n r h d * k A b n r' h d) * A.dm h r r'))
      + (∑ d : Fin 128, state A b h d e n.val * q A b n r h d) * A.xi h r = mixed A b n r h e := by
  unfold mixed
  congr 1
  · exact Finset.sum_congr rfl fun _ _ => mul_comm _ _
  · congr 1
    exact Finset.sum_congr rfl fun _ _ => mul_comm _ _

/-- A row of 256 numbers at `e`, less its mean and over its deviation. -/
def groupNorm (x : Fin 256 → EReal) (e : Fin 256) : EReal :=
  (x e - Ideal.div (∑ e', x e') (Ideal.ofBits .f32 0x43800000#32))
    * Ideal.rsqrt (Ideal.div (∑ e', (x e' - Ideal.div (∑ e', x e') (Ideal.ofBits .f32 0x43800000#32))
        * (x e' - Ideal.div (∑ e', x e') (Ideal.ofBits .f32 0x43800000#32))) (Ideal.ofBits .f32 0x43800000#32)
      + Ideal.ofBits .f32 0x358637BD#32)

/-- `x` by its logistic function. -/
def silu (x : EReal) : EReal := x * Ideal.div 1 (1 + Ideal.exp (-x))

/-- The gated, normed row. -/
def result (r : Fin 128) (h : Fin 4) (e : Fin 256) : EReal :=
  silu (g A b n r h e) * (groupNorm (mixed A b n r h) e * A.nw ⟨h.val * 256 + e.val, by omega⟩)

end Cert.Retention

end
-- ==== Proof.RetentionArgs.lean ====
/-
  The arguments of the retention as the reference names them: the projected activations and the norm's weights are the
  call's arguments, the tables are the reference's own.
-/
module

public import proofs.«01_k».proof.Proof.Gen.ReferenceIdeal.Read
public import proofs.«01_k».proof.Proof.RetentionMath

@[expose] public section

noncomputable section

namespace Cert.Retention

open Cert.ReferenceIdeal Cert.ReferenceIdeal.Read Idealize.ShloMosaic

/-- The retention's arguments. -/
def args (x0 : Vec Ideal S16384x12800 .bf16) (x1 : Vec Ideal S1024 .f32) : Args where
  z r l := x0 (ix2 r l)
  cos p d := val_main_v19 (F := Ideal) (ix2 p d)
  sin p d := val_main_v21 (F := Ideal) (ix2 p d)
  dm h r r' := val_main_v77 (F := Ideal) (ix3 h r r')
  zeta h r := val_main_v91 (F := Ideal) (ix2 h r)
  xi h r := val_main_v304 (F := Ideal) (ix2 h r)
  dec h := val_main_v99 (F := Ideal) (ix1 h)
  nw l := x1 (ix1 l)

end Cert.Retention

end
-- ==== Proof.RetentionWindows.lean ====
/-
  What the retention kernel's windows hold at each grid point, element by element.

  Point `t` is block `t % 8` of sequence `t / 8`: its 512 rows start at row `512 t` of the activations and at position
  `512 (t % 8)` of the rotary tables. The tables of decays and the norm's weights are the same at every point. The host
  computes the tables by the reference's own operations; the cosine is joined with itself and the sine with its negation.
-/
module

public import proofs.«01_k».proof.Proof.RetentionBlock
public import proofs.«01_k».proof.Proof.RetentionArgs

@[expose] public section

set_option maxRecDepth 16384

noncomputable section

namespace Cert.KernelIdeal.Value

open Cert.KernelIdeal Cert.KernelIdeal.Gen Idealize.ShloMosaic Idealize.ShloMosaic.TcCoe Idealize.SL.Sem
open Cert.Retention

variable (m : (ℓ : Loc nD τ sig) → Buf (Elt Ideal) ℓ)

/-- The retention's arguments in the launch memory. -/
abbrev A (c : Dev nD) : Args := args (m ((c : Thread nD τ).loc main_arg0)) (m ((c : Thread nD τ).loc main_arg1))

section Tables

/-- The cosines, joined with themselves. -/
theorem table_v13 (c : Dev nD) : @Eq (FVec Ideal S4096x128 .f32) (V m c main_v13) (concatenate S4096x128 1
    [⟨S4096x64, ReferenceIdeal.Read.val_main_v19 (F := Ideal)⟩, ⟨S4096x64, ReferenceIdeal.Read.val_main_v19 (F := Ideal)⟩]
    concatenates_S4096x64_S4096x64_S4096x128_d1) := by
  dsimp only [V, hostOps0, hostOps0_1, hostOps0_2, hostOps0_3, hostOps0_4, List.flatten_cons, List.flatten_nil, List.cons_append,
    List.nil_append, List.append_nil]
  after_results_simp
  rfl

/-- The negated sines, joined with the sines. -/
theorem table_v15 (c : Dev nD) : @Eq (FVec Ideal S4096x128 .f32) (V m c main_v15) (concatenate S4096x128 1
    [⟨S4096x64, Host.negf (F := Ideal) (ReferenceIdeal.Read.val_main_v21 (F := Ideal))⟩, ⟨S4096x64, ReferenceIdeal.Read.val_main_v21 (F := Ideal)⟩]
    concatenates_S4096x64_S4096x64_S4096x128_d1) := by
  dsimp only [V, hostOps0, hostOps0_1, hostOps0_2, hostOps0_3, hostOps0_4, List.flatten_cons, List.flatten_nil, List.cons_append,
    List.nil_append, List.append_nil]
  after_results_simp
  rfl

/-- The decay inside a chunk. -/
theorem table_v39 (c : Dev nD) : @Eq (FVec Ideal S4x128x128 .f32) (V m c main_v39) (ReferenceIdeal.Read.val_main_v77 (F := Ideal)) := by
  dsimp only [V, hostOps0, hostOps0_1, hostOps0_2, hostOps0_3, hostOps0_4, List.flatten_cons, List.flatten_nil, List.cons_append,
    List.nil_append, List.append_nil]
  after_results_simp
  rfl

/-- The decay to the end of a chunk. -/
theorem table_v60 (c : Dev nD) : @Eq (FVec Ideal S4x128x256 .f32) (V m c main_v60)
    (broadcastInDim S4x128x256 ![0, 1, 2] bcast_S4x128x1_S4x128x256_0_1_2
      (broadcastInDim S4x128x1 ![0, 1] bcast_S4x128_S4x128x1_0_1 (ReferenceIdeal.Read.val_main_v91 (F := Ideal)))) := by
  dsimp only [V, hostOps0, hostOps0_1, hostOps0_2, hostOps0_3, hostOps0_4, List.flatten_cons, List.flatten_nil, List.cons_append,
    List.nil_append, List.append_nil]
  after_results_simp
  rfl

/-- The decay from the start of a chunk. -/
theorem table_v62 (c : Dev nD) : @Eq (FVec Ideal S4x128x256 .f32) (V m c main_v62)
    (broadcastInDim S4x128x256 ![0, 1, 2] bcast_S4x128x1_S4x128x256_0_1_2
      (broadcastInDim S4x128x1 ![0, 1] bcast_S4x128_S4x128x1_0_1 (ReferenceIdeal.Read.val_main_v304 (F := Ideal)))) := by
  dsimp only [V, hostOps0, hostOps0_1, hostOps0_2, hostOps0_3, hostOps0_4, List.flatten_cons, List.flatten_nil, List.cons_append,
    List.nil_append, List.append_nil]
  after_results_simp
  rfl

/-- The decay over a chunk. -/
theorem table_v64 (c : Dev nD) : @Eq (FVec Ideal S4x128x256 .f32) (V m c main_v64)
    (broadcastInDim S4x128x256 ![0, 1, 2] bcast_S4x1x1_S4x128x256_0_1_2
      (broadcastInDim S4x1x1 ![0] bcast_S4_S4x1x1_0 (ReferenceIdeal.Read.val_main_v99 (F := Ideal)))) := by
  dsimp only [V, hostOps0, hostOps0_1, hostOps0_2, hostOps0_3, hostOps0_4, List.flatten_cons, List.flatten_nil, List.cons_append,
    List.nil_append, List.append_nil]
  after_results_simp
  rfl

/-- The norm's weights, laid out as one row. -/
theorem table_v0 (c : Dev nD) : V m c main_v0 = broadcastInDim S1x1024 ![1] bcast_S1024_S1x1024_1 (m ((c : Thread nD τ).loc main_arg1)) := by
  dsimp only [V, hostOps0, hostOps0_1, hostOps0_2, hostOps0_3, hostOps0_4, List.flatten_cons, List.flatten_nil, List.cons_append,
    List.nil_append, List.append_nil]
  after_results_simp

end Tables

/-- The index maps over the grid. -/
theorem index_facts : ∀ t : Fin cfg0.N, win0_0.index t = ![t.val, 0] ∧ win0_1.index t = ![t.val, 1]
    ∧ win0_2.index t = ![t.val, 1] ∧ win0_3.index t = ![t.val, 2] ∧ win0_4.index t = ![t.val % 8, 0]
    ∧ win0_5.index t = ![t.val % 8, 0] ∧ win0_6.index t = ![0, 0, 0] ∧ win0_7.index t = ![0, 0, 0]
    ∧ win0_8.index t = ![0, 0, 0] ∧ win0_9.index t = ![0, 0, 0] ∧ win0_10.index t = ![0, 0] :=
  (by decide +kernel : ∀ t : Fin grid0.N, win0_0.index t = ![t.val, 0] ∧ win0_1.index t = ![t.val, 1]
    ∧ win0_2.index t = ![t.val, 1] ∧ win0_3.index t = ![t.val, 2] ∧ win0_4.index t = ![t.val % 8, 0]
    ∧ win0_5.index t = ![t.val % 8, 0] ∧ win0_6.index t = ![0, 0, 0] ∧ win0_7.index t = ![0, 0, 0]
    ∧ win0_8.index t = ![0, 0, 0] ∧ win0_9.index t = ![0, 0, 0] ∧ win0_10.index t = ![0, 0])

theorem lt32 (t : Fin cfg0.N) : t.val < 32 := lt_of_lt_of_eq t.isLt N_0

/-- A point's queries. -/
theorem iblk0_apply (c : Dev nD) (t : Fin cfg0.N) (r l : Fin 512) :
    (iblk m c 0 t : Vec Ideal S512x512 .bf16) (ix2 r l)
      = (A m c).z ⟨512 * t.val + r.val, by have := lt32 t; omega⟩ ⟨l.val, by omega⟩ := by
  unfold iblk
  rw [View.read_apply]
  show V m c main_arg0 _ = _
  rw [V_main_arg0]
  show m _ _ = m _ _
  congr 1
  funext a
  apply Fin.ext
  have h := (index_facts t).1
  match a with
  | ⟨0, _⟩ => show win0_0.index t 0 * 512 + 1 * r.val = 512 * t.val + r.val; rw [h]; show t.val * 512 + _ = _; omega
  | ⟨1, _⟩ => show win0_0.index t 1 * 512 + 1 * l.val = l.val; rw [h]; show 0 * 512 + _ = _; omega

/-- A point's keys. -/
theorem iblk1_apply (c : Dev nD) (t : Fin cfg0.N) (r l : Fin 512) :
    (iblk m c 1 t : Vec Ideal S512x512 .bf16) (ix2 r l)
      = (A m c).z ⟨512 * t.val + r.val, by have := lt32 t; omega⟩ ⟨512 + l.val, by omega⟩ := by
  unfold iblk
  rw [View.read_apply]
  show V m c main_arg0 _ = _
  rw [V_main_arg0]
  show m _ _ = m _ _
  congr 1
  funext a
  apply Fin.ext
  have h := (index_facts t).2.1
  match a with
  | ⟨0, _⟩ => show win0_1.index t 0 * 512 + 1 * r.val = 512 * t.val + r.val; rw [h]; show t.val * 512 + _ = _; omega
  | ⟨1, _⟩ => show win0_1.index t 1 * 512 + 1 * l.val = 512 + l.val; rw [h]; show 1 * 512 + _ = _; omega

/-- A point's values. -/
theorem X2_apply (c : Dev nD) (t : Fin cfg0.N) (r : Fin 512) (l : Fin 1024) :
    (X0_2 m c t : Vec Ideal S512x1024 .bf16) (ix2 r l)
      = (A m c).z ⟨512 * t.val + r.val, by have := lt32 t; omega⟩ ⟨1024 + l.val, by omega⟩ := by
  unfold X0_2 Pipeline.Window.fill
  rw [dif_pos (moved0_2 t _)]
  unfold iblk
  rw [View.read_apply]
  show V m c main_arg0 _ = _
  rw [V_main_arg0]
  show m _ _ = m _ _
  congr 1
  funext a
  apply Fin.ext
  have h := (index_facts t).2.2.1
  match a with
  | ⟨0, _⟩ => show win0_2.index t 0 * 512 + 1 * r.val = 512 * t.val + r.val; rw [h]; show t.val * 512 + _ = _; omega
  | ⟨1, _⟩ => show win0_2.index t 1 * 1024 + 1 * l.val = 1024 + l.val; rw [h]; show 1 * 1024 + _ = _; omega

/-- A point's gates. -/
theorem X3_apply (c : Dev nD) (t : Fin cfg0.N) (r : Fin 512) (l : Fin 1024) :
    (X0_3 m c t : Vec Ideal S512x1024 .bf16) (ix2 r l)
      = (A m c).z ⟨512 * t.val + r.val, by have := lt32 t; omega⟩ ⟨2048 + l.val, by omega⟩ := by
  unfold X0_3 Pipeline.Window.fill
  rw [dif_pos (moved0_3 t _)]
  unfold iblk
  rw [View.read_apply]
  show V m c main_arg0 _ = _
  rw [V_main_arg0]
  show m _ _ = m _ _
  congr 1
  funext a
  apply Fin.ext
  have h := (index_facts t).2.2.2.1
  match a with
  | ⟨0, _⟩ => show win0_3.index t 0 * 512 + 1 * r.val = 512 * t.val + r.val; rw [h]; show t.val * 512 + _ = _; omega
  | ⟨1, _⟩ => show win0_3.index t 1 * 1024 + 1 * l.val = 2048 + l.val; rw [h]; show 2 * 1024 + _ = _; omega

/-- The cosines joined with themselves, at a point's positions. -/
theorem iblk4_apply (c : Dev nD) (t : Fin cfg0.N) (r : Fin 512) (d : Fin 128) :
    (iblk m c 4 t : Vec Ideal S512x128 .f32) (ix2 r d)
      = if h : d.val < 64 then (A m c).cos ⟨512 * (t.val % 8) + r.val, by omega⟩ ⟨d.val, h⟩
        else (A m c).cos ⟨512 * (t.val % 8) + r.val, by omega⟩ ⟨d.val - 64, by omega⟩ := by
  unfold iblk
  rw [View.read_apply]
  show V m c main_v13 _ = _
  refine (congrFun (table_v13 m c) _).trans ?_
  have hi : ((cfg0.win 4).blk t).view.emb (ix2 r d) = ix2 (⟨512 * (t.val % 8) + r.val, by omega⟩ : Fin 4096) d := by
    funext a
    apply Fin.ext
    have h := (index_facts t).2.2.2.2.1
    match a with
    | ⟨0, _⟩ => show win0_4.index t 0 * 512 + 1 * r.val = 512 * (t.val % 8) + r.val; rw [h]; show t.val % 8 * 512 + _ = _; omega
    | ⟨1, _⟩ => show win0_4.index t 1 * 128 + 1 * d.val = d.val; rw [h]; show 0 * 128 + _ = _; omega
  rw [hi]
  pointwise
  rfl

/-- The negated sines joined with the sines, at a point's positions. -/
theorem iblk5_apply (c : Dev nD) (t : Fin cfg0.N) (r : Fin 512) (d : Fin 128) :
    (iblk m c 5 t : Vec Ideal S512x128 .f32) (ix2 r d)
      = if h : d.val < 64 then -(A m c).sin ⟨512 * (t.val % 8) + r.val, by omega⟩ ⟨d.val, h⟩
        else (A m c).sin ⟨512 * (t.val % 8) + r.val, by omega⟩ ⟨d.val - 64, by omega⟩ := by
  unfold iblk
  rw [View.read_apply]
  show V m c main_v15 _ = _
  refine (congrFun (table_v15 m c) _).trans ?_
  have hi : ((cfg0.win 5).blk t).view.emb (ix2 r d) = ix2 (⟨512 * (t.val % 8) + r.val, by omega⟩ : Fin 4096) d := by
    funext a
    apply Fin.ext
    have h := (index_facts t).2.2.2.2.2.1
    match a with
    | ⟨0, _⟩ => show win0_5.index t 0 * 512 + 1 * r.val = 512 * (t.val % 8) + r.val; rw [h]; show t.val % 8 * 512 + _ = _; omega
    | ⟨1, _⟩ => show win0_5.index t 1 * 128 + 1 * d.val = d.val; rw [h]; show 0 * 128 + _ = _; omega
  rw [hi]
  pointwise
  rfl

/-- The decay inside a chunk. -/
theorem iblk6_apply (c : Dev nD) (t : Fin cfg0.N) (h : Fin 4) (r r' : Fin 128) :
    (iblk m c 6 t : Vec Ideal S4x128x128 .f32) (ix3 h r r') = (A m c).dm h r r' := by
  unfold iblk
  rw [View.read_apply]
  show V m c main_v39 _ = _
  refine (congrFun (table_v39 m c) _).trans ?_
  show ReferenceIdeal.Read.val_main_v77 (F := Ideal) _ = ReferenceIdeal.Read.val_main_v77 (F := Ideal) _
  congr 1
  funext a
  apply Fin.ext
  have hw := (index_facts t).2.2.2.2.2.2.1
  match a with
  | ⟨0, _⟩ => show win0_6.index t 0 * 4 + 1 * h.val = h.val; rw [hw]; show 0 * 4 + _ = _; omega
  | ⟨1, _⟩ => show win0_6.index t 1 * 128 + 1 * r.val = r.val; rw [hw]; show 0 * 128 + _ = _; omega
  | ⟨2, _⟩ => show win0_6.index t 2 * 128 + 1 * r'.val = r'.val; rw [hw]; show 0 * 128 + _ = _; omega

/-- The decay to the end of a chunk, along a head's columns. -/
theorem iblk7_apply (c : Dev nD) (t : Fin cfg0.N) (h : Fin 4) (r : Fin 128) (e : Fin 256) :
    (iblk m c 7 t : Vec Ideal S4x128x256 .f32) (ix3 h r e) = (A m c).zeta h r := by
  unfold iblk
  rw [View.read_apply]
  show V m c main_v60 _ = _
  refine (congrFun (table_v60 m c) _).trans ?_
  have hi : ((cfg0.win 7).blk t).view.emb (ix3 h r e) = ix3 h r e := by
    funext a
    apply Fin.ext
    have hw := (index_facts t).2.2.2.2.2.2.2.1
    match a with
    | ⟨0, _⟩ => show win0_7.index t 0 * 4 + 1 * h.val = h.val; rw [hw]; show 0 * 4 + _ = _; omega
    | ⟨1, _⟩ => show win0_7.index t 1 * 128 + 1 * r.val = r.val; rw [hw]; show 0 * 128 + _ = _; omega
    | ⟨2, _⟩ => show win0_7.index t 2 * 256 + 1 * e.val = e.val; rw [hw]; show 0 * 256 + _ = _; omega
  rw [hi]
  pointwise
  rfl

/-- The decay from the start of a chunk, along a head's columns. -/
theorem iblk8_apply (c : Dev nD) (t : Fin cfg0.N) (h : Fin 4) (r : Fin 128) (e : Fin 256) :
    (iblk m c 8 t : Vec Ideal S4x128x256 .f32) (ix3 h r e) = (A m c).xi h r := by
  unfold iblk
  rw [View.read_apply]
  show V m c main_v62 _ = _
  refine (congrFun (table_v62 m c) _).trans ?_
  have hi : ((cfg0.win 8).blk t).view.emb (ix3 h r e) = ix3 h r e := by
    funext a
    apply Fin.ext
    have hw := (index_facts t).2.2.2.2.2.2.2.2.1
    match a with
    | ⟨0, _⟩ => show win0_8.index t 0 * 4 + 1 * h.val = h.val; rw [hw]; show 0 * 4 + _ = _; omega
    | ⟨1, _⟩ => show win0_8.index t 1 * 128 + 1 * r.val = r.val; rw [hw]; show 0 * 128 + _ = _; omega
    | ⟨2, _⟩ => show win0_8.index t 2 * 256 + 1 * e.val = e.val; rw [hw]; show 0 * 256 + _ = _; omega
  rw [hi]
  pointwise
  rfl

/-- The decay over a chunk, along a head's state. -/
theorem iblk9_apply (c : Dev nD) (t : Fin cfg0.N) (h : Fin 4) (r : Fin 128) (e : Fin 256) :
    (iblk m c 9 t : Vec Ideal S4x128x256 .f32) (ix3 h r e) = (A m c).dec h := by
  unfold iblk
  rw [View.read_apply]
  show V m c main_v64 _ = _
  refine (congrFun (table_v64 m c) _).trans ?_
  have hi : ((cfg0.win 9).blk t).view.emb (ix3 h r e) = ix3 h r e := by
    funext a
    apply Fin.ext
    have hw := (index_facts t).2.2.2.2.2.2.2.2.2.1
    match a with
    | ⟨0, _⟩ => show win0_9.index t 0 * 4 + 1 * h.val = h.val; rw [hw]; show 0 * 4 + _ = _; omega
    | ⟨1, _⟩ => show win0_9.index t 1 * 128 + 1 * r.val = r.val; rw [hw]; show 0 * 128 + _ = _; omega
    | ⟨2, _⟩ => show win0_9.index t 2 * 256 + 1 * e.val = e.val; rw [hw]; show 0 * 256 + _ = _; omega
  rw [hi]
  pointwise
  rfl

/-- The norm's weights, laid out as one row. -/
theorem iblk10_apply (c : Dev nD) (t : Fin cfg0.N) (l : Fin 1024) :
    (iblk m c 10 t : Vec Ideal S1x1024 .f32) (ix2 0 l) = (A m c).nw l := by
  unfold iblk
  rw [View.read_apply]
  show V m c main_v0 _ = _
  refine (congrFun (table_v0 m c) _).trans ?_
  pointwise
  show m _ _ = m _ _
  congr 1
  funext a
  apply Fin.ext
  have h := (index_facts t).2.2.2.2.2.2.2.2.2.2
  match a with
  | ⟨0, _⟩ => show win0_10.index t 1 * 1024 + 1 * l.val = l.val; rw [h]; show 0 * 1024 + _ = _; omega

end Cert.KernelIdeal.Value

end
-- ==== Proof.RetentionKernel.lean ====
/-
  What the retention kernel leaves in its result array, element by element.

  `stepS_apply` and `blockO_apply` read a chunk of a head at an index. By induction on the grid points, the scratch after
  point `t` holds the states of sequence `t / 8` after its first `4 (t % 8) + 4` chunks (`outs_state`), so every point's
  block is the retention of its rows (`out_apply`); `result_apply` reads the final array.
-/
module

public import proofs.«01_k».proof.Proof.RetentionWindows

@[expose] public section

set_option maxRecDepth 16384

noncomputable section

namespace Cert.KernelIdeal.Value

open Cert.KernelIdeal Cert.KernelIdeal.Gen Idealize.ShloMosaic Idealize.ShloMosaic.TcCoe Idealize.SL.Sem
open Cert.Retention

/-- A head's row turned by its position, as the kernel computes it: against the row rotated by half a head. -/
def turn (x : Fin 128 → EReal) (c s : Fin 128 → EReal) (d : Fin 128) : EReal :=
  x d * c d + x ⟨(d.val + 128 - 64) % 128, Nat.mod_lt _ (by decide)⟩ * s d

/-- A head's state after a chunk. -/
theorem stepS_apply (cos sin : Vec Ideal S128x128 .f32) (k : Vec Ideal S128x128 .bf16) (v : Vec Ideal S128x256 .bf16)
    (zeta dec st : Vec Ideal S1x128x256 .f32) (d : Fin 128) (e : Fin 256) :
    stepS cos sin k v zeta dec st (ix3 0 d e) = st (ix3 0 d e) * dec (ix3 0 d e)
      + ∑ r : Fin 128, turn (fun d' => k (ix2 r d')) (fun d' => cos (ix2 r d')) (fun d' => sin (ix2 r d')) d
          * Ideal.ofBits .f32 0x3DB504F3#32 * (v (ix2 r e) * zeta (ix3 0 r e)) := by
  unfold stepS turn
  pointwise [k0_pay10, k0_pay5, k0_pay8, k0_pay3, k0_pay4]

/-- A chunk's rows of one head before the norm. -/
def mix (cos sin : Vec Ideal S128x128 .f32) (q k : Vec Ideal S128x128 .bf16) (v : Vec Ideal S128x256 .bf16)
    (dm : Vec Ideal S1x128x128 .f32) (xi st : Vec Ideal S1x128x256 .f32) (r : Fin 128) (e : Fin 256) : EReal :=
  (∑ r' : Fin 128, (∑ d : Fin 128, turn (fun d' => q (ix2 r d')) (fun d' => cos (ix2 r d')) (fun d' => sin (ix2 r d')) d
      * (turn (fun d' => k (ix2 r' d')) (fun d' => cos (ix2 r' d')) (fun d' => sin (ix2 r' d')) d
          * Ideal.ofBits .f32 0x3DB504F3#32)) * dm (ix3 0 r r') * v (ix2 r' e))
    + (∑ d : Fin 128, turn (fun d' => q (ix2 r d')) (fun d' => cos (ix2 r d')) (fun d' => sin (ix2 r d')) d * st (ix3 0 d e))
        * xi (ix3 0 r e)

/-- A chunk's rows of one head of the result. -/
theorem blockO_apply (cos sin : Vec Ideal S128x128 .f32) (q k : Vec Ideal S128x128 .bf16) (v g : Vec Ideal S128x256 .bf16)
    (dm : Vec Ideal S1x128x128 .f32) (xi : Vec Ideal S1x128x256 .f32) (nw : Vec Ideal S1x256 .f32)
    (st : Vec Ideal S1x128x256 .f32) (r : Fin 128) (e : Fin 256) :
    blockO cos sin q k v g dm xi nw st (ix2 r e)
      = silu (g (ix2 r e)) * (groupNorm (mix cos sin q k v dm xi st r) e * nw (ix2 0 e)) := by
  unfold blockO silu groupNorm mix turn
  pointwise [k0_pay3, k0_pay4, k0_pay5, k0_pay8, k0_pay9, k0_pay6, k0_pay7, k0_pay11, k0_pay12, k0_pay13]
  rw [zero_sub]

variable (m : (ℓ : Loc nD τ sig) → Buf (Elt Ideal) ℓ)

/-- The sequence of a point, and the chunk of the sequence that is a point's chunk `ci`. -/
def seqOf (t : Fin cfg0.N) : Fin 4 := ⟨t.val / 8, by have := lt32 t; omega⟩
def chunkOf (t : Fin cfg0.N) (ci : Fin 4) : Fin 32 := ⟨4 * (t.val % 8) + ci.val, by omega⟩

/-- A point's rows and positions are those of its chunks. -/
theorem row_eq (t : Fin cfg0.N) (ci : Fin 4) (r : Fin 128) (H) :
    (⟨512 * t.val + (128 * ci.val + r.val), H⟩ : Fin 16384) = row (seqOf t) (chunkOf t ci) r :=
  Fin.ext (by
    show 512 * t.val + (128 * ci.val + r.val) = t.val / 8 * 4096 + ((4 * (t.val % 8) + ci.val) * 128 + r.val)
    omega)
theorem pos_eq (t : Fin cfg0.N) (ci : Fin 4) (r : Fin 128) (H) :
    (⟨512 * (t.val % 8) + (128 * ci.val + r.val), H⟩ : Fin 4096) = pos (chunkOf t ci) r :=
  Fin.ext (by
    show 512 * (t.val % 8) + (128 * ci.val + r.val) = (4 * (t.val % 8) + ci.val) * 128 + r.val
    omega)

/-- A head's row of a point, turned as the kernel turns it, is the row turned by its position. -/
theorem turn_eq (c : Dev nD) (t : Fin cfg0.N) (ci : Fin 4) (r : Fin 128) (x y : Fin 128 → EReal) (hx : ∀ d, x d = y d) (d : Fin 128) :
    turn x (fun d' => View.ld (iblk m c 4 t : Vec Ideal S512x128 .f32)
        (Rect.unit (s := S512x128) ![128 * ci.val, 0] S128x128.size (inbC ci)) (ix2 r d'))
      (fun d' => View.ld (iblk m c 5 t : Vec Ideal S512x128 .f32)
        (Rect.unit (s := S512x128) ![128 * ci.val, 0] S128x128.size (inbC ci)) (ix2 r d')) d
      = rotary y ((A m c).cos (pos (chunkOf t ci) r)) ((A m c).sin (pos (chunkOf t ci) r)) d := by
  unfold turn
  pointwise
  simp only [iblk4_apply, iblk5_apply, pos_eq, hx]
  exact rotary_eq y _ _ d

/-- A point's queries, keys, values and gates, chunk by chunk and head by head. -/
theorem q_eq (c : Dev nD) (t : Fin cfg0.N) (ci h : Fin 4) (r d : Fin 128) :
    View.ld (iblk m c 0 t : Vec Ideal S512x512 .bf16)
      (Rect.unit (s := S512x512) ![128 * ci.val, 128 * h.val] S128x128.size (inbQ ci h)) (ix2 r d)
      = (A m c).z (row (seqOf t) (chunkOf t ci) r) ⟨h.val * 128 + d.val, by omega⟩ := by
  pointwise
  rw [iblk0_apply, row_eq]
  exact congrArg ((A m c).z _) (Fin.ext (by dsimp only; omega))
theorem k_eq (c : Dev nD) (t : Fin cfg0.N) (ci h : Fin 4) (r d : Fin 128) :
    View.ld (iblk m c 1 t : Vec Ideal S512x512 .bf16)
      (Rect.unit (s := S512x512) ![128 * ci.val, 128 * h.val] S128x128.size (inbQ ci h)) (ix2 r d)
      = (A m c).z (row (seqOf t) (chunkOf t ci) r) ⟨512 + (h.val * 128 + d.val), by omega⟩ := by
  pointwise
  rw [iblk1_apply, row_eq]
  exact congrArg ((A m c).z _) (Fin.ext (by dsimp only; omega))
theorem v_eq (c : Dev nD) (t : Fin cfg0.N) (ci h : Fin 4) (r : Fin 128) (e : Fin 256) :
    View.ld (X0_2 m c t : Vec Ideal S512x1024 .bf16)
      (Rect.unit (s := S512x1024) ![128 * ci.val, 256 * h.val] S128x256.size (inbV ci h)) (ix2 r e)
      = v (A m c) (seqOf t) (chunkOf t ci) r h e := by
  pointwise
  rw [X2_apply, row_eq]
  unfold v
  exact congrArg ((A m c).z _) (Fin.ext (by dsimp only; omega))
theorem g_eq (c : Dev nD) (t : Fin cfg0.N) (ci h : Fin 4) (r : Fin 128) (e : Fin 256) :
    View.ld (X0_3 m c t : Vec Ideal S512x1024 .bf16)
      (Rect.unit (s := S512x1024) ![128 * ci.val, 256 * h.val] S128x256.size (inbV ci h)) (ix2 r e)
      = g (A m c) (seqOf t) (chunkOf t ci) r h e := by
  pointwise
  rw [X3_apply, row_eq]
  unfold g
  exact congrArg ((A m c).z _) (Fin.ext (by dsimp only; omega))

/-- Head `h` of a buffer of four heads, at an element. -/
theorem headS_apply (x : Vec Ideal S4x128x256 .f32) (h : Fin 4) (d : Fin 128) (e : Fin 256) :
    headS x h (ix3 0 d e) = x (ix3 h d e) := by
  unfold headS
  pointwise

theorem stateN_succ (x1 : Vec Ideal S512x512 .bf16) (x2 : Vec Ideal S512x1024 .bf16) (x4 x5 : Vec Ideal S512x128 .f32)
    (x7 x9 : Vec Ideal S4x128x256 .f32) (s0 : Fin 4 → Vec Ideal S1x128x256 .f32) (n : ℕ) (h : Fin 4) :
    stateN x1 x2 x4 x5 x7 x9 s0 (n + 1) h =
      stepS (View.ld x4 (Rect.unit (s := S512x128) ![128 * (Fin.ofNat 4 n).val, 0] S128x128.size (inbC (Fin.ofNat 4 n))))
        (View.ld x5 (Rect.unit (s := S512x128) ![128 * (Fin.ofNat 4 n).val, 0] S128x128.size (inbC (Fin.ofNat 4 n))))
        (View.ld x1 (Rect.unit (s := S512x512) ![128 * (Fin.ofNat 4 n).val, 128 * h.val] S128x128.size (inbQ (Fin.ofNat 4 n) h)))
        (View.ld x2 (Rect.unit (s := S512x1024) ![128 * (Fin.ofNat 4 n).val, 256 * h.val] S128x256.size (inbV (Fin.ofNat 4 n) h)))
        (headS x7 h) (headS x9 h) (stateN x1 x2 x4 x5 x7 x9 s0 n h) := rfl

/-- If a point starts from the states of its sequence before its first chunk, it has them before each of its chunks. -/
theorem stateN_eq (c : Dev nD) (t : Fin cfg0.N) (s0 : Fin 4 → Vec Ideal S1x128x256 .f32)
    (hs : ∀ (h : Fin 4) (d : Fin 128) (e : Fin 256), s0 h (ix3 0 d e) = state (A m c) (seqOf t) h d e (4 * (t.val % 8)))
    (h : Fin 4) (d : Fin 128) (e : Fin 256) : ∀ n : ℕ, n ≤ 4 →
    stateN (iblk m c 1 t : Vec Ideal S512x512 .bf16) (X0_2 m c t) (iblk m c 4 t) (iblk m c 5 t) (iblk m c 7 t) (iblk m c 9 t)
      s0 n h (ix3 0 d e) = state (A m c) (seqOf t) h d e (4 * (t.val % 8) + n)
  | 0, _ => hs h d e
  | n + 1, hn => by
    have hc : chunkOf t (Fin.ofNat 4 n) = Fin.ofNat 32 (4 * (t.val % 8) + n) :=
      Fin.ext (by show 4 * (t.val % 8) + n % 4 = (4 * (t.val % 8) + n) % 32; omega)
    rw [stateN_succ, stepS_apply, stateN_eq c t s0 hs h d e n (by omega)]
    rw [headS_apply (iblk m c 9 t), iblk9_apply]
    refine Eq.trans ?_ (state_succ (A m c) (seqOf t) h d e (4 * (t.val % 8) + n)).symm
    rw [← hc]
    refine congrArg (_ + ·) (Finset.sum_congr rfl fun r _ => ?_)
    rw [turn_eq m c t (Fin.ofNat 4 n) r _ _ (fun d' => k_eq m c t (Fin.ofNat 4 n) h r d') d, v_eq, headS_apply (iblk m c 7 t), iblk7_apply]
    rfl

/-- … and its block is the retention of its rows. -/
theorem outO_eq (c : Dev nD) (t : Fin cfg0.N) (s0 : Fin 4 → Vec Ideal S1x128x256 .f32)
    (hs : ∀ (h : Fin 4) (d : Fin 128) (e : Fin 256), s0 h (ix3 0 d e) = state (A m c) (seqOf t) h d e (4 * (t.val % 8)))
    (ci h : Fin 4) (r : Fin 128) (e : Fin 256) :
    outO (iblk m c 0 t : Vec Ideal S512x512 .bf16) (iblk m c 1 t) (X0_2 m c t) (X0_3 m c t) (iblk m c 4 t) (iblk m c 5 t)
      (iblk m c 6 t) (iblk m c 7 t) (iblk m c 8 t) (iblk m c 9 t) (iblk m c 10 t) s0 ci h (ix2 r e)
      = result (A m c) (seqOf t) (chunkOf t ci) r h e := by
  unfold outO
  rw [blockO_apply, g_eq]
  have hn : View.ld (iblk m c 10 t : Vec Ideal S1x1024 .f32)
      (Rect.unit (s := S1x1024) ![0, 256 * h.val] S1x256.size (inbN h)) (ix2 0 e) = (A m c).nw ⟨h.val * 256 + e.val, by omega⟩ := by
    pointwise
    rw [iblk10_apply]
    exact congrArg (A m c).nw (Fin.ext (by dsimp only; omega))
  rw [hn]
  unfold result
  refine congrArg (silu _ * ·) (congrArg (· * _) (congrArg (groupNorm · e) (funext fun e' => ?_)))
  unfold mix mixed
  rw [headS_apply, iblk8_apply]
  refine congrArg₂ (· + ·) (Finset.sum_congr rfl fun r' _ => ?_) (congrArg (· * _) (Finset.sum_congr rfl fun d _ => ?_))
  · rw [v_eq]
    refine congrArg (· * _) (congrArg₂ (· * ·) (Finset.sum_congr rfl fun d _ => ?_) ?_)
    · rw [turn_eq m c t ci r _ _ (fun d' => q_eq m c t ci h r d') d, turn_eq m c t ci r' _ _ (fun d' => k_eq m c t ci h r' d') d]
      rfl
    · pointwise
      rw [iblk6_apply]
  · rw [turn_eq m c t ci r _ _ (fun d' => q_eq m c t ci h r d') d, stateN_eq m c t s0 hs h d e' ci.val (by omega)]
    rfl

/-- The state a point leaves. -/
theorem blockS_eq (c : Dev nD) (t : Fin cfg0.N) (s0 : Fin 4 → Vec Ideal S1x128x256 .f32)
    (hs : ∀ (h : Fin 4) (d : Fin 128) (e : Fin 256), s0 h (ix3 0 d e) = state (A m c) (seqOf t) h d e (4 * (t.val % 8)))
    (h : Fin 4) (d : Fin 128) (e : Fin 256) :
    blockS (iblk m c 1 t : Vec Ideal S512x512 .bf16) (X0_2 m c t) (iblk m c 4 t) (iblk m c 5 t) (iblk m c 7 t) (iblk m c 9 t)
      s0 (ix3 h d e) = state (A m c) (seqOf t) h d e (4 * (t.val % 8) + 4) :=
  stateN_eq m c t s0 hs h d e 4 (le_refl 4)

/-- What a point leaves: the retention of its rows, and the states after its chunks. -/
def Done (c : Dev nD) (t : Fin cfg0.N) (o : Vec Ideal S512x1024 .bf16 × Vec Ideal S4x128x256 .f32) : Prop :=
  (∀ (ci h : Fin 4) (r : Fin 128) (e : Fin 256),
      o.1 (ix2 ⟨128 * ci.val + r.val, by omega⟩ ⟨256 * h.val + e.val, by omega⟩) = result (A m c) (seqOf t) (chunkOf t ci) r h e)
    ∧ ∀ (h : Fin 4) (d : Fin 128) (e : Fin 256), o.2 (ix3 h d e) = state (A m c) (seqOf t) h d e (4 * (t.val % 8) + 4)

theorem done_of (c : Dev nD) (t : Fin cfg0.N) (s0 : Fin 4 → Vec Ideal S1x128x256 .f32)
    (hs : ∀ (h : Fin 4) (d : Fin 128) (e : Fin 256), s0 h (ix3 0 d e) = state (A m c) (seqOf t) h d e (4 * (t.val % 8))) :
    Done m c t (blockOut (iblk m c 0 t : Vec Ideal S512x512 .bf16) (iblk m c 1 t) (X0_2 m c t) (X0_3 m c t) (iblk m c 4 t) (iblk m c 5 t)
      (iblk m c 6 t) (iblk m c 7 t) (iblk m c 8 t) (iblk m c 9 t) (iblk m c 10 t) s0,
      blockS (iblk m c 1 t : Vec Ideal S512x512 .bf16) (X0_2 m c t) (iblk m c 4 t) (iblk m c 5 t) (iblk m c 7 t) (iblk m c 9 t) s0) := by
  refine ⟨fun ci h r e => ?_, blockS_eq m c t s0 hs⟩
  rw [← outO_eq m c t s0 hs ci h r e, ← blockOut_emb]
  refine congrArg (blockOut _ _ _ _ _ _ _ _ _ _ _ _) (funext fun a => Fin.ext ?_)
  match a with
  | ⟨0, _⟩ => show 128 * ci.val + r.val = 128 * ci.val + 1 * r.val; omega
  | ⟨1, _⟩ => show 256 * h.val + e.val = 256 * h.val + 1 * e.val; omega

/-- The first point of a sequence starts from zero. -/
theorem start_A (c : Dev nD) (t : Fin cfg0.N) (h0 : t.val % 8 = 0) (h : Fin 4) (d : Fin 128) (e : Fin 256) :
    (headS (F := Ideal) (k0_pay2 (F := Ideal)) h (ix3 0 d e) : EReal) = state (A m c) (seqOf t) h d e (4 * (t.val % 8)) := by
  rw [headS_apply, h0]
  show _ = (0 : EReal)
  pointwise [k0_pay2]

/-- Every point leaves the retention of its rows and the states after its chunks. -/
theorem outs_done (c : Dev nD) : ∀ (n : ℕ) (h : n < cfg0.N), Done m c ⟨n, h⟩ (outsAt0 m c n h)
  | 0, h => by
    rw [(outsAt0_zero m c h).trans (stAt0_A m c ⟨0, h⟩ junk0 rfl), out_A, sout_A]
    exact done_of m c _ _ (start_A m c _ rfl)
  | n + 1, h => by
    have h' : n < cfg0.N := Nat.lt_of_succ_lt h
    by_cases h0 : (n + 1) % 8 = 0
    · rw [(outsAt0_succ m c n h).trans (stAt0_A m c ⟨n + 1, h⟩ _ h0), out_A, sout_A]
      exact done_of m c _ _ (start_A m c _ h0)
    · have ih := (outs_done c n h').2
      rw [(outsAt0_succ m c n h).trans (stAt0_B m c ⟨n + 1, h⟩ _ h0), out_B, sout_B]
      refine done_of m c _ _ fun hh d e => ?_
      rw [headS_apply, ih]
      have e1 : seqOf ⟨n, h'⟩ = seqOf ⟨n + 1, h⟩ := Fin.ext (by show n / 8 = (n + 1) / 8; omega)
      have e2 : 4 * (n % 8) + 4 = 4 * ((n + 1) % 8) := by omega
      show state (A m c) (seqOf ⟨n, h'⟩) hh d e (4 * (n % 8) + 4) = state (A m c) (seqOf ⟨n + 1, h⟩) hh d e (4 * ((n + 1) % 8))
      rw [e1, e2]

/-- The array the run leaves is the retention of its arguments. -/
theorem result_apply (c : Dev nD) (b : Fin 4) (n : Fin 32) (r : Fin 128) (h : Fin 4) (e : Fin 256) :
    G11 m c (ix2 (row b n r) (⟨h.val * 256 + e.val, by omega⟩ : Fin 1024)) = result (A m c) b n r h e := by
  have hp : pt11Of (ix2 (row b n r) (⟨h.val * 256 + e.val, by omega⟩ : Fin 1024)) = 8 * b.val + n.val / 4 := by
    show 1 * ((b.val * 4096 + (n.val * 128 + r.val)) / 512 - 0) + 1 * ((h.val * 256 + e.val) / 1024 - 0) = _; omega
  have hN : pt11Of (ix2 (row b n r) (⟨h.val * 256 + e.val, by omega⟩ : Fin 1024)) < cfg0.N := by
    rw [hp]; exact lt_of_lt_of_eq (by omega) N_0.symm
  have hl : loc11Of (ix2 (row b n r) (⟨h.val * 256 + e.val, by omega⟩ : Fin 1024))
      = ix2 (⟨128 * (⟨n.val % 4, by omega⟩ : Fin 4).val + r.val, by show 128 * (n.val % 4) + r.val < 512; omega⟩ : Fin 512)
        (⟨256 * h.val + e.val, by omega⟩ : Fin 1024) := by
    funext a
    apply Fin.ext
    match a with
    | ⟨0, _⟩ => show (b.val * 4096 + (n.val * 128 + r.val)) % 512 = 128 * (n.val % 4) + r.val; omega
    | ⟨1, _⟩ => show (h.val * 256 + e.val) % 1024 = 256 * h.val + e.val; omega
  unfold G11
  rw [dif_pos hN, ← outsAt0_sweep m c _ hN, hl, (outs_done m c _ hN).1 ⟨n.val % 4, by omega⟩ h r e]
  have e1 : seqOf ⟨pt11Of (ix2 (row b n r) (⟨h.val * 256 + e.val, by omega⟩ : Fin 1024)), hN⟩ = b :=
    Fin.ext (by show pt11Of _ / 8 = b.val; rw [hp]; omega)
  have e2 : chunkOf ⟨pt11Of (ix2 (row b n r) (⟨h.val * 256 + e.val, by omega⟩ : Fin 1024)), hN⟩ ⟨n.val % 4, by omega⟩ = n :=
    Fin.ext (by show 4 * (pt11Of _ % 8) + n.val % 4 = n.val; rw [hp]; omega)
  rw [e1, e2]

end Cert.KernelIdeal.Value

end
-- ==== Proof.RetentionRef.lean ====
/-
  The reference's retention, element by element: each of its intermediate arrays is the quantity `Cert.Retention` names.
-/
module

public import proofs.«01_k».proof.Proof.RetentionArgs

@[expose] public section

set_option maxRecDepth 16384

noncomputable section

namespace Cert.Retention

open Cert.ReferenceIdeal Cert.ReferenceIdeal.Read Idealize.ShloMosaic

variable (x0 : Vec Ideal S16384x12800 .bf16) (x1 : Vec Ideal S1024 .f32)

/-- The turned queries. -/
theorem ref_q (b : Fin 4) (n : Fin 32) (r : Fin 128) (h : Fin 4) (d : Fin 128) :
    val_main_v58 (F := Ideal) x0 (ix5 b n r h d) = q (args x0 x1) b n r h d := by
  pointwise [val_main_v58, val_main_v35, val_main_v34, val_main_v33, val_main_v32, val_main_v31, val_main_v30, val_main_v29, val_main_v28, val_main_v27,
    val_main_v26, val_main_v25, val_main_v24, val_main_v23, val_main_v22, val_main_v20, val_main_v3, val_main_v2, val_main_v1, val_main_v0]
  unfold q rotary args row pos
  rfl

/-- The turned and scaled keys. -/
theorem ref_k (b : Fin 4) (n : Fin 32) (r : Fin 128) (h : Fin 4) (d : Fin 128) :
    val_main_v59 (F := Ideal) x0 (ix5 b n r h d) = k (args x0 x1) b n r h d := by
  pointwise [
    val_main_v59, val_main_v50, val_main_v49, val_main_v20, val_main_v22, val_main_v36, val_main_v37, val_main_v38, val_main_v39, val_main_v40,
    val_main_v41, val_main_v42, val_main_v43, val_main_v44, val_main_v45, val_main_v46, val_main_v47, val_main_v48,
    val_main_v4, val_main_v5, val_main_v1, val_main_v0, val_main_cst_2]
  unfold k rotary args row pos
  rfl

/-- The values. -/
theorem ref_v (b : Fin 4) (n : Fin 32) (r : Fin 128) (h : Fin 4) (e : Fin 256) :
    val_main_v60 (F := Ideal) x0 (ix5 b n r h e) = v (args x0 x1) b n r h e := by
  pointwise [val_main_v60, val_main_v7, val_main_v6, val_main_v1, val_main_v0]
  unfold v args row
  rfl

/-- What a chunk adds to the state. -/
theorem ref_kv (b : Fin 4) (n : Fin 32) (h : Fin 4) (d : Fin 128) (e : Fin 256) :
    val_main_v96 (F := Ideal) x0 (ix5 n b h d e) = kv (args x0 x1) b n h d e := by
  pointwise [val_main_v96, val_main_v95, val_main_v94, val_main_v93, val_main_v92]
  simp only [ref_k x0 x1, ref_v x0 x1]
  rfl

/-- The states before each chunk, stacked. -/
theorem ref_state (b : Fin 4) (n : Fin 32) (h : Fin 4) (d : Fin 128) (e : Fin 256) :
    val_main_v296 (F := Ideal) x0 (ix5 n b h d e) = state (args x0 x1) b h d e n.val := by
  fin_cases n <;> (
    pointwise [
      val_main_v294, val_main_v295, val_main_v296, val_main_v262, val_main_v263, val_main_v264, val_main_v265,
      val_main_v266, val_main_v267, val_main_v268, val_main_v269, val_main_v270, val_main_v271, val_main_v272,
      val_main_v273, val_main_v274, val_main_v275, val_main_v276, val_main_v277, val_main_v278, val_main_v279,
      val_main_v280, val_main_v281, val_main_v282, val_main_v283, val_main_v284, val_main_v285, val_main_v286,
      val_main_v287, val_main_v288, val_main_v289, val_main_v290, val_main_v291, val_main_v292, val_main_v293,
      val_main_v100, val_main_v101, val_main_v102, val_main_v103, val_main_v104, val_main_v105, val_main_v106,
      val_main_v107, val_main_v108, val_main_v109, val_main_v110, val_main_v111, val_main_v112, val_main_v113,
      val_main_v114, val_main_v115, val_main_v116, val_main_v117, val_main_v118, val_main_v119, val_main_v120,
      val_main_v121, val_main_v122, val_main_v123, val_main_v124, val_main_v125, val_main_v126, val_main_v127,
      val_main_v128, val_main_v129, val_main_v130, val_main_v131, val_main_v132, val_main_v133, val_main_v134,
      val_main_v135, val_main_v136, val_main_v137, val_main_v138, val_main_v139, val_main_v140, val_main_v141,
      val_main_v142, val_main_v143, val_main_v144, val_main_v145, val_main_v146, val_main_v147, val_main_v148,
      val_main_v149, val_main_v150, val_main_v151, val_main_v152, val_main_v153, val_main_v154, val_main_v155,
      val_main_v156, val_main_v157, val_main_v158, val_main_v159, val_main_v160, val_main_v161, val_main_v162,
      val_main_v163, val_main_v164, val_main_v165, val_main_v166, val_main_v167, val_main_v168, val_main_v169,
      val_main_v170, val_main_v171, val_main_v172, val_main_v173, val_main_v174, val_main_v175, val_main_v176,
      val_main_v177, val_main_v178, val_main_v179, val_main_v180, val_main_v181, val_main_v182, val_main_v183,
      val_main_v184, val_main_v185, val_main_v186, val_main_v187, val_main_v188, val_main_v189, val_main_v190,
      val_main_v191, val_main_v192, val_main_v193, val_main_v194, val_main_v195, val_main_v196, val_main_v197,
      val_main_v198, val_main_v199, val_main_v200, val_main_v201, val_main_v202, val_main_v203, val_main_v204,
      val_main_v205, val_main_v206, val_main_v207, val_main_v208, val_main_v209, val_main_v210, val_main_v211,
      val_main_v212, val_main_v213, val_main_v214, val_main_v215, val_main_v216, val_main_v217, val_main_v218,
      val_main_v219, val_main_v220, val_main_v221, val_main_v222, val_main_v223, val_main_v224, val_main_v225,
      val_main_v226, val_main_v227, val_main_v228, val_main_v229, val_main_v230, val_main_v231, val_main_v232,
      val_main_v233, val_main_v234, val_main_v235, val_main_v236, val_main_v237, val_main_v238, val_main_v239,
      val_main_v240, val_main_v241, val_main_v242, val_main_v243, val_main_v244, val_main_v245, val_main_v246,
      val_main_v247, val_main_v248, val_main_v249, val_main_v250, val_main_v251, val_main_v252, val_main_v253,
      val_main_v254, val_main_v255, val_main_v256, val_main_cst_10]
    try simp only [ref_kv x0 x1]
    rfl)

/-- A chunk's scores, decayed. -/
theorem ref_scores (b : Fin 4) (n : Fin 32) (r r' : Fin 128) (h : Fin 4) :
    val_main_v81 (F := Ideal) x0 (ix5 b n h r r')
      = (∑ d : Fin 128, q (args x0 x1) b n r h d * k (args x0 x1) b n r' h d) * (args x0 x1).dm h r r' := by
  have e : val_main_v80 (F := Ideal) (ix5 b n h r r') = val_main_v77 (F := Ideal) (ix3 h r r') := by
    rw [val_main_v80_apply, val_main_v79_apply]
    congr 1
    funext a
    match a with
    | ⟨0, _⟩ => rfl
    | ⟨1, _⟩ => rfl
    | ⟨2, _⟩ => rfl
  have hs : val_main_v78 (F := Ideal) x0 (ix5 b n h r r')
      = (∑ d : Fin 128, q (args x0 x1) b n r h d * k (args x0 x1) b n r' h d : EReal) := by
    pointwise [val_main_v78]
    simp only [ref_k x0 x1, ref_q x0 x1]
  have hd : val_main_v77 (F := Ideal) (ix3 h r r') = (args x0 x1).dm h r r' := by
    unfold args
    rfl
  rw [val_main_v81_apply, hs, e, hd]
  generalize (args x0 x1).dm h r r' = y
  generalize (∑ d : Fin 128, q (args x0 x1) b n r h d * k (args x0 x1) b n r' h d : EReal) = z
  rfl

/-- A row before its norm. -/
theorem ref_mixed (b : Fin 4) (n : Fin 32) (r : Fin 128) (h : Fin 4) (e : Fin 256) :
    val_main_v311 (F := Ideal) x0 (ix5 b n r h e) = mixed (args x0 x1) b n r h e := by
  pointwise [val_main_v82, val_main_v83, val_main_v305, val_main_v306, val_main_v307, val_main_v308, val_main_v309,
    val_main_v310, val_main_v311]
  simp only [ref_scores x0 x1, ref_v x0 x1, ref_q x0 x1, ref_state x0 x1]
  rw [← mixed_eq]
  unfold args
  rfl

/-- The result. -/
theorem ref_result (b : Fin 4) (n : Fin 32) (r : Fin 128) (h : Fin 4) (e : Fin 256) :
    val_main_v338 (F := Ideal) x0 x1 (ix2 (row b n r) ⟨h.val * 256 + e.val, by omega⟩) = result (args x0 x1) b n r h e := by
  unfold row
  pointwise [
    val_main_v312, val_main_v313, val_main_v314, val_main_v315, val_main_v316, val_main_v317, val_main_v318,
    val_main_v319, val_main_v320, val_main_v321, val_main_v322, val_main_v323, val_main_v324, val_main_v325,
    val_main_v326, val_main_v327, val_main_v328, val_main_v329, val_main_v330, val_main_v331, val_main_v332,
    val_main_v333, val_main_v334, val_main_v335, val_main_v336, val_main_v337, val_main_v338, val_main_v8,
    val_main_v1, val_main_v0, val_main_call2_v0, val_main_call2_v1, val_main_call2_v2, val_main_call2_v3,
    val_main_call2_v4, val_main_call2_v5, val_main_call2_cst, val_main_call2_cst_0, val_main_cst_12, val_main_cst_13,
    val_main_cst_14, val_main_cst_15, val_main_cst_16]
  simp only [ref_mixed x0 x1]
  have e0 : (⟨b.val * 4096 + (b.val * 4096 + (n.val * 128 + r.val)) % 4096, by omega⟩ : Fin 16384) = row b n r :=
    Fin.ext (by show b.val * 4096 + (b.val * 4096 + (n.val * 128 + r.val)) % 4096 = b.val * 4096 + (n.val * 128 + r.val); omega)
  rw [e0]
  unfold result silu groupNorm g args
  rfl

end Cert.Retention

end
-- ==== Proof.Retention.lean ====
/-
  The fused retention computes reference.py's: rotary positions, the decayed causal products of each chunk, the
  state carried from chunk to chunk, the group norm of each head and the gate.

  Both arrays are `result` of the same arguments: the kernel's by `KernelIdeal.Value.result_apply`, the
  reference's by `ref_result`.
-/
module

public import proofs.«01_k».proof.Defs
public import proofs.«01_k».proof.Proof.RetentionKernel
public import proofs.«01_k».proof.Proof.RetentionRef
public import proofs.«01_k».proof.Proof.Gen.ReferenceIdeal.Run

@[expose] public section

set_option maxRecDepth 16384

noncomputable section

namespace Cert.Retention

open Idealize.ShloMosaic Idealize.ShloMosaic.TcCoe Idealize.SL.Sem

/-- At every element the reference's array is the kernel's. -/
theorem arrays_apply (m : (ℓ : Loc KernelIdeal.nD KernelIdeal.τ KernelIdeal.sig) → Buf (Elt Ideal) ℓ) (c : Dev KernelIdeal.nD)
    (i : Fin 16384) (l : Fin 1024) :
    ReferenceIdeal.Read.val_main_v338 (F := Ideal)
        (m ((c : Thread KernelIdeal.nD KernelIdeal.τ).loc KernelIdeal.main_arg0))
        (m ((c : Thread KernelIdeal.nD KernelIdeal.τ).loc KernelIdeal.main_arg1)) (ix2 i l)
      = KernelIdeal.Value.G11 m c (ix2 i l) := by
  have hi : i = row ⟨i.val / 4096, by omega⟩ ⟨i.val % 4096 / 128, by omega⟩ ⟨i.val % 128, by omega⟩ :=
    Fin.ext (by show i.val = i.val / 4096 * 4096 + (i.val % 4096 / 128 * 128 + i.val % 128); omega)
  have hl : l = (⟨(⟨l.val / 256, by omega⟩ : Fin 4).val * 256 + (⟨l.val % 256, by omega⟩ : Fin 256).val, by
      show l.val / 256 * 256 + l.val % 256 < 1024; omega⟩ : Fin 1024) :=
    Fin.ext (by show l.val = l.val / 256 * 256 + l.val % 256; omega)
  rw [hi, hl]
  exact (ref_result _ _ _ _ _ _ _).trans (KernelIdeal.Value.result_apply m c _ _ _ _ _).symm

/-- From memories that agree on the arguments, the kernel and the reference end with the same array. -/
theorem algebraic : Cert.algebraic_KernelIdeal_ReferenceIdeal := by
  intro m ρ m' ρ' _ hagree
  refine ⟨fun c => KernelIdeal.Value.G11 m c, KernelIdeal.Value.run (F := Ideal) m ρ, ?_⟩
  refine (θ_run ReferenceIdeal.defs _ _).mono (fun r h c => ⟨(h c).1.trans ?_, (h c).2⟩) (ReferenceIdeal.Value.run (F := Ideal) m' ρ')
  obtain ⟨h0, h1⟩ := hagree c
  rw [ReferenceIdeal.Read.val_main_v338_eq]
  show ReferenceIdeal.Read.val_main_v338 (F := Ideal)
      (m' ((c : Thread ReferenceIdeal.nD ReferenceIdeal.τ).loc ReferenceIdeal.main_arg0))
      (m' ((c : Thread ReferenceIdeal.nD ReferenceIdeal.τ).loc ReferenceIdeal.main_arg1)) = _
  rw [h0, h1]
  funext j
  rw [eq_ix2 j]
  exact arrays_apply m c _ _

end Cert.Retention

end
-- ==== Proof.InProjKernel.lean ====
/-
  What one run of the fused norm and input projection leaves in its result array, element by element.

  The grid is 16 row blocks by 5 column blocks. The first column block of each row block norms its 1024 rows once and
  keeps them in a scratch buffer; all five multiply that scratch by their columns of the weights and add the bias.
  `outs_eq` says so at every point; `result_apply` reads the final array at an element.
-/
module

public import proofs.«01_k».proof.Proof.Gen.InProjIdeal.Value
public import Idealize.ShloMosaic.Lib.Pointwise

@[expose] public section

set_option maxRecDepth 16384

noncomputable section

namespace Cert.InProjIdeal.Value

open Cert.InProjIdeal Cert.InProjIdeal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

section Cases
variable (c : Dev nD) (i : grid0.Coords) (a2 : Memref sig .tc .vmem S1024x1024 .f32) (h2 : a2.IsWhole)
  (a3 : Memref sig .tc .vmem S1x1024 .f32) (h3 : a3.IsWhole) (a4 : Memref sig .tc .vmem S1024x2560 .bf16) (h4 : a4.IsWhole)
  (a5 : Memref sig .tc .vmem S1x2560 .f32) (h5 : a5.IsWhole) (a6 : Memref sig .tc .vmem S1024x2560 .bf16) (h6 : a6.IsWhole)
  (a7 : Memref sig .tc .vmem S1024x1024 .bf16) (h7 : a7.IsWhole)
  (x0 : Vec F S1024x1024 .f32) (x1 : Vec F S1x1024 .f32) (x2 : Vec F S1024x2560 .bf16) (x3 : Vec F S1x2560 .f32)

/-- The first point of a row block leaves the normed rows in the scratch. -/
theorem sout_A (hc : cond0_0 i) :
    sout0_A_0 c i a2 h2 a3 h3 a4 h4 a5 h5 a6 h6 a7 h7 hc x0 x1 x2 x3 = k0_pay1 x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero (S := S1024x1024) hz]
  simp only [View.readAt_eq_ld, h2.read_unread, h3.read_unread, View.ld_unit_zero (S := S1024x1024) hz,
    View.ld_unit_zero (S := S1x1024) hz]

/-- … and their product with the point's columns in the output block. -/
theorem out_A (hc : cond0_0 i) :
    out0_A_4 c i a2 h2 a3 h3 a4 h4 a5 h5 a6 h6 a7 h7 hc x0 x1 x2 x3 = k0_pay2 (k0_pay1 x0 x1) x2 x3 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero (S := S1024x2560) hz]
  simp only [View.readAt_eq_ld, h2.read_unread, h3.read_unread, h4.read_unread, h5.read_unread,
    View.ld_unit_zero (S := S1024x1024) hz, View.ld_unit_zero (S := S1x1024) hz, View.ld_unit_zero (S := S1024x2560) hz,
    View.ld_unit_zero (S := S1x2560) hz, View.readCov_unit_zero (S := S1024x1024) _ hz]

/-- A later point of the row block multiplies what the scratch holds. -/
theorem out_B (hc : ¬cond0_0 i) (xs : Vec F S1024x1024 .bf16) :
    out0_B_4 c i a2 h2 a3 h3 a4 h4 a5 h5 a6 h6 a7 h7 hc x0 x1 x2 x3 xs = k0_pay2 xs x2 x3 := by
  unfold out0_B_4
  rw [View.read_writes_eq_canon _ _ _ (cover0_B_4 c i a2 h2 a3 h3 a4 h4 a5 h5 a6 h6 a7 h7 hc x0 x1 x2 x3 xs)]
  unfold kernelRun0_B
  dsimp only
  sl_unfold_words
  rw [View.canon_unit_zero (S := S1024x2560) hz]
  simp only [View.readAt_eq_ld, h4.read_unread, h5.read_unread, h7.read_unread,
    View.ld_unit_zero (S := S1024x1024) hz, View.ld_unit_zero (S := S1024x2560) hz, View.ld_unit_zero (S := S1x2560) hz]

end Cases

/-- The index maps over the grid. -/
theorem index_facts : ∀ t : Fin cfg0.N, win0_0.index t = ![t.val / 5, 0] ∧ win0_1.index t = ![0, 0]
    ∧ win0_2.index t = ![0, t.val % 5] ∧ win0_3.index t = ![0, t.val % 5] :=
  (by decide +kernel : ∀ t : Fin grid0.N, win0_0.index t = ![t.val / 5, 0] ∧ win0_1.index t = ![0, 0]
    ∧ win0_2.index t = ![0, t.val % 5] ∧ win0_3.index t = ![0, t.val % 5])

/-- The rows a point reads. -/
theorem iblk0_apply (c : Dev nD) (t : Fin cfg0.N) (r k : Fin 1024) :
    (iblk m c 0 t : Vec F S1024x1024 .f32) (ix2 r k)
      = m ((c : Thread nD τ).loc main_arg0) (ix2 (⟨1024 * (t.val / 5) + r.val, by
          have := lt_of_lt_of_eq t.isLt N_0; omega⟩ : Fin 16384) k) := by
  unfold iblk
  rw [View.read_apply]
  show V m c main_arg0 _ = _
  rw [V_main_arg0]
  congr 1
  funext a
  apply Fin.ext
  have h := (index_facts t).1
  match a with
  | ⟨0, _⟩ => show win0_0.index t 0 * 1024 + 1 * r.val = 1024 * (t.val / 5) + r.val; rw [h]; show t.val / 5 * 1024 + _ = _; omega
  | ⟨1, _⟩ => show win0_0.index t 1 * 1024 + 1 * k.val = k.val; rw [h]; show 0 * 1024 + _ = _; omega

/-- The norm's weights, laid out as one row. -/
theorem iblk1_apply (c : Dev nD) (t : Fin cfg0.N) (k : Fin 1024) :
    (iblk m c 1 t : Vec F S1x1024 .f32) (ix2 0 k) = m ((c : Thread nD τ).loc main_arg1) (ix1 k) := by
  unfold iblk
  rw [View.read_apply]
  show V m c main_v0 _ = _
  have e : V m c main_v0 = broadcastInDim S1x1024 ![1] bcast_S1024_S1x1024_1 (m ((c : Thread nD τ).loc main_arg1)) := by
    dsimp only [V, hostOps0]; after_results
  rw [e]
  pointwise
  congr 1
  funext a
  apply Fin.ext
  have h := (index_facts t).2.1
  match a with
  | ⟨0, _⟩ => show win0_1.index t 1 * 1024 + 1 * k.val = k.val; rw [h]; show 0 * 1024 + _ = _; omega

/-- The point's columns of the weights. -/
theorem iblk2_apply (m : (ℓ : Loc nD τ sig) → Buf (Elt Ideal) ℓ) (c : Dev nD) (t : Fin cfg0.N) (k : Fin 1024) (l : Fin 2560) :
    (iblk m c 2 t : Vec Ideal S1024x2560 .bf16) (ix2 k l)
      = m ((c : Thread nD τ).loc main_arg2) (ix2 k (⟨2560 * (t.val % 5) + l.val, by omega⟩ : Fin 12800)) := by
  unfold iblk
  rw [View.read_apply]
  show V m c main_v1 _ = _
  have e : @Eq (FVec Ideal S1024x12800 .bf16) (V m c main_v1)
      (truncf (F := Ideal) (s := S1024x12800) (φ := .f32) .bf16 (m ((c : Thread nD τ).loc main_arg2)) bitsLt_bf16_f32) := by
    dsimp only [V, hostOps0]; after_results
  refine (congrFun e _).trans ?_
  show m _ _ = _
  congr 1
  funext a
  apply Fin.ext
  have h := (index_facts t).2.2.1
  match a with
  | ⟨0, _⟩ => show win0_2.index t 0 * 1024 + 1 * k.val = k.val; rw [h]; show 0 * 1024 + _ = _; omega
  | ⟨1, _⟩ => show win0_2.index t 1 * 2560 + 1 * l.val = 2560 * (t.val % 5) + l.val; rw [h]; show t.val % 5 * 2560 + _ = _; omega

/-- The point's columns of the bias. -/
theorem iblk3_apply (c : Dev nD) (t : Fin cfg0.N) (l : Fin 2560) :
    (iblk m c 3 t : Vec F S1x2560 .f32) (ix2 0 l)
      = m ((c : Thread nD τ).loc main_arg3) (ix2 0 (⟨2560 * (t.val % 5) + l.val, by omega⟩ : Fin 12800)) := by
  unfold iblk
  rw [View.read_apply]
  show V m c main_arg3 _ = _
  rw [V_main_arg3]
  congr 1
  funext a
  apply Fin.ext
  have h := (index_facts t).2.2.2
  match a with
  | ⟨0, _⟩ => show win0_3.index t 0 * 1 + 1 * 0 = 0; rw [h]; rfl
  | ⟨1, _⟩ => show win0_3.index t 1 * 2560 + 1 * l.val = 2560 * (t.val % 5) + l.val; rw [h]; show t.val % 5 * 2560 + _ = _; omega

/-- What every point leaves: the product of its rows, normed, with its columns; and the normed rows. -/
theorem outs_eq (c : Dev nD) : ∀ (n : ℕ) (h : n < cfg0.N), outsAt0 m c n h =
    (k0_pay2 (k0_pay1 (iblk m c 0 ⟨n, h⟩) (iblk m c 1 ⟨n, h⟩)) (iblk m c 2 ⟨n, h⟩) (iblk m c 3 ⟨n, h⟩),
      k0_pay1 (iblk m c 0 ⟨n, h⟩) (iblk m c 1 ⟨n, h⟩))
  | 0, h => (outsAt0_A m c ⟨0, h⟩ rfl).trans (by rw [out_A, sout_A])
  | n + 1, h => by
    by_cases h0 : (n + 1) % 5 = 0
    · exact (outsAt0_A m c ⟨n + 1, h⟩ h0).trans (by rw [out_A, sout_A])
    · have h' : n < cfg0.N := Nat.lt_of_succ_lt h
      have e := index_facts ⟨n + 1, h⟩
      have e' := index_facts ⟨n, h'⟩
      have hd : (n + 1) / 5 = n / 5 := by omega
      have e0 : (iblk m c 0 ⟨n, h'⟩ : Vec F S1024x1024 .f32) = iblk m c 0 ⟨n + 1, h⟩ := by
        funext j
        rw [eq_ix2 j]
        refine (iblk0_apply m c ⟨n, h'⟩ (j 0) (j 1)).trans (Eq.trans ?_ (iblk0_apply m c ⟨n + 1, h⟩ (j 0) (j 1)).symm)
        simp only [hd]
      have e1 : (iblk m c 1 ⟨n, h'⟩ : Vec F S1x1024 .f32) = iblk m c 1 ⟨n + 1, h⟩ := by
        funext j
        idx_vars j
        obtain rfl : j0 = 0 := Subsingleton.elim _ _
        rw [iblk1_apply m c ⟨n, h'⟩ j1, iblk1_apply m c ⟨n + 1, h⟩ j1]
      refine (outsAt0_B m c ⟨n + 1, h⟩ h0).trans ?_
      have ih := outs_eq c n h'
      show (out0_B_4 c _ _ _ _ _ _ _ _ _ _ _ _ _ _ _ _ _ _ (outsAt0 m c n h').2, (outsAt0 m c n h').2) = _
      rw [ih, out_B, e0, e1]

/-- The normed rows times the columns plus the bias, at an element of the block. -/
theorem block_apply (x : Vec Ideal S1024x1024 .f32) (n : Vec Ideal S1x1024 .f32) (w : Vec Ideal S1024x2560 .bf16)
    (b : Vec Ideal S1x2560 .f32) (r : Fin 1024) (l : Fin 2560) :
    k0_pay2 (F := Ideal) (k0_pay1 x n) w b (ix2 r l)
      = (∑ k : Fin 1024, x (ix2 r k) * Ideal.rsqrt (Ideal.div (∑ k' : Fin 1024, x (ix2 r k') * x (ix2 r k'))
          (Ideal.ofBits .f32 0x44800000#32) + Ideal.ofBits .f32 0x358637BD#32) * n (ix2 0 k) * w (ix2 k l)) + b (ix2 0 l) := by
  pointwise [k0_pay2, k0_pay1]

/-- The input projection: each row of `x` normed with the weights `n`, times the columns of `w`, plus the bias. -/
def inProj (x : Vec Ideal S16384x1024 .f32) (n : Vec Ideal S1024 .f32) (w : Vec Ideal S1024x12800 .f32)
    (b : Vec Ideal S1x12800 .f32) (r : Fin 16384) (l : Fin 12800) : EReal :=
  (∑ k : Fin 1024, x (ix2 r k) * Ideal.rsqrt (Ideal.div (∑ k' : Fin 1024, x (ix2 r k') * x (ix2 r k'))
    (Ideal.ofBits .f32 0x44800000#32) + Ideal.ofBits .f32 0x358637BD#32) * n (ix1 k) * w (ix2 k l)) + b (ix2 0 l)

/-- The array the run leaves is the input projection of its arguments. -/
theorem result_apply (m : (ℓ : Loc nD τ sig) → Buf (Elt Ideal) ℓ) (c : Dev nD) (r : Fin 16384) (l : Fin 12800) :
    G4 m c (ix2 r l) = inProj (m ((c : Thread nD τ).loc main_arg0)) (m ((c : Thread nD τ).loc main_arg1))
      (m ((c : Thread nD τ).loc main_arg2)) (m ((c : Thread nD τ).loc main_arg3)) r l := by
  have hp : pt4Of (ix2 r l) = 5 * (r.val / 1024) + l.val / 2560 := by
    show 5 * (r.val / 1024 - 0) + 1 * (l.val / 2560 - 0) = _; omega
  have hN : pt4Of (ix2 r l) < cfg0.N := by rw [hp]; exact lt_of_lt_of_eq (by omega) N_0.symm
  have hl : loc4Of (ix2 r l) = ix2 (⟨r.val % 1024, Nat.mod_lt _ (by decide)⟩ : Fin 1024)
      (⟨l.val % 2560, Nat.mod_lt _ (by decide)⟩ : Fin 2560) := by
    funext a; match a with | ⟨0, _⟩ => rfl | ⟨1, _⟩ => rfl
  unfold G4
  rw [dif_pos hN, ← outsAt0_sweep m c (pt4Of (ix2 r l)) hN, outs_eq, hl]
  dsimp only
  rw [block_apply]
  simp only [iblk0_apply, iblk1_apply, iblk2_apply, iblk3_apply]
  have e0 : (⟨1024 * (pt4Of (ix2 r l) / 5) + r.val % 1024, by rw [hp]; omega⟩ : Fin 16384) = r :=
    Fin.ext (by show 1024 * (pt4Of (ix2 r l) / 5) + r.val % 1024 = r.val; rw [hp]; omega)
  have e1 : (⟨2560 * (pt4Of (ix2 r l) % 5) + l.val % 2560, by omega⟩ : Fin 12800) = l :=
    Fin.ext (by show 2560 * (pt4Of (ix2 r l) % 5) + l.val % 2560 = l.val; rw [hp]; omega)
  rw [e0, e1]
  rfl

end Cert.InProjIdeal.Value

end
-- ==== Proof.InProj.lean ====
/-
  The fused norm and input projection computes reference.py's: `rms_norm(x, w) @ w_in + bias`.

  The reference's value is read at an element (`reference_apply`) and is the same sum the kernel's array holds
  (`InProjIdeal.Value.result_apply`); nothing is reordered.
-/
module

public import proofs.«01_k».proof.Defs
public import proofs.«01_k».proof.Proof.InProjKernel
public import proofs.«01_k».proof.Proof.Gen.InProjRefIdeal.Read
public import proofs.«01_k».proof.Proof.Gen.InProjRefIdeal.Run

@[expose] public section

set_option maxRecDepth 16384

noncomputable section

namespace Cert.InProjRefIdeal.Read

open Cert.InProjRefIdeal Idealize.ShloMosaic Idealize.ShloMosaic.TcCoe Idealize.SL.Sem

/-- The reference's array is the input projection of its arguments. -/
theorem reference_apply (x : Vec Ideal S16384x1024 .f32) (n : Vec Ideal S1024 .f32) (w : Vec Ideal S1024x12800 .f32)
    (b : Vec Ideal S1x12800 .f32) (r : Fin 16384) (l : Fin 12800) :
    val_main_v16 (F := Ideal) x n w b (ix2 r l) = InProjIdeal.Value.inProj x n w b r l := by
  unfold InProjIdeal.Value.inProj
  pointwise [val_main_v16, val_main_v15, val_main_v14, val_main_v13, val_main_v12, val_main_v11, val_main_v10,
    val_main_v9, val_main_v8, val_main_v7, val_main_v6, val_main_v5, val_main_cst_1, val_main_v4, val_main_v3,
    val_main_cst_0, val_main_v2, val_main_v1, val_main_cst, val_main_v0]

end Cert.InProjRefIdeal.Read

namespace Cert.InProj

open Idealize.ShloMosaic Idealize.ShloMosaic.TcCoe Idealize.SL.Sem

/-- From memories that agree on the arguments, the kernel and the reference end with the same array. -/
theorem algebraic : Cert.algebraic_InProjIdeal_InProjRefIdeal := by
  intro m ρ m' ρ' _ hagree
  refine ⟨fun c => InProjIdeal.Value.G4 m c, InProjIdeal.Value.run (F := Ideal) m ρ, ?_⟩
  refine (θ_run InProjRefIdeal.defs _ _).mono (fun r h c => ⟨(h c).1.trans ?_, (h c).2⟩) (InProjRefIdeal.Value.run (F := Ideal) m' ρ')
  obtain ⟨h0, h1, h2, h3⟩ := hagree c
  rw [InProjRefIdeal.Read.val_main_v16_eq, h0, h1, h2, h3]
  funext j
  rw [eq_ix2 j]
  exact (InProjRefIdeal.Read.reference_apply _ _ _ _ _ _).trans (InProjIdeal.Value.result_apply m c _ _).symm

end Cert.InProj

end
-- ==== Proof.FfnBlock.lean ====
/-
  What one grid point of the feed-forward kernel leaves: the output block and the rows carried to the next point.

  A point takes 1024 rows of one sequence. It norms them (`k0_pay4`), and for each of eleven tiles of 256 columns makes
  the gate's and the value's half of the up-projection (`up`), passes each through the causal convolution over three rows
  (`conv`, whose first rows need the last rows of the point before, carried in two scratch buffers), and joins them
  (`gate`). The first six tiles and the last five are multiplied into the rows by the down-projection, and the sum is
  normed (`blockOut`); the first layer's call leaves the sum (`blockSum`). Each half's last eight rows are carried on
  (`carry`). Case A, the first point of a sequence, starts from zero rows; case B from what the scratch buffers hold.
-/
module

public import proofs.«01_k».proof.Proof.Gen.FfnIdeal.Value
public import Idealize.ShloMosaic.Lib.Pointwise
public import Idealize.ShloMosaic.Lib.Pipeline.ReadBack

@[expose] public section

set_option maxRecDepth 65536
set_option maxHeartbeats 2000000

noncomputable section

namespace Cert.FfnIdeal.Value

open Cert.FfnIdeal Cert.FfnIdeal.Gen Idealize.ShloMosaic Idealize.ShloMosaic.TcCoe Idealize.SL.Sem

variable {F : FTy → Type} [FloatOps F]

/-- One tile of the up-projection. -/
def up (h : Vec F S1024x1024 .bf16) (w : Vec F S1x1024x256 .bf16) : FVec F S1024x256 .f32 :=
  matmul dot_S1024x1024_S1024x256_S1024x256_1_0_0_1_n_n none h (shapeCast S1024x256 w shapeCasts_S1x1024x256_S1024x256)
    (constant S1024x256 .f32 0x00000000#32)

/-- The eight carried rows, as a matrix. -/
def prev (p : Vec F S1x8x256 .f32) : FVec F S8x256 .f32 := shapeCast S8x256 p shapeCasts_S1x8x256_S8x256

/-- The convolution's weights, as a matrix. -/
def taps (w : Vec F S1x3x256 .f32) : FVec F S3x256 .f32 := shapeCast S3x256 w shapeCasts_S1x3x256_S3x256

/-- Carried row 6, eight times. -/
def row6 (p : Vec F S1x8x256 .f32) : FVec F S8x256 .f32 :=
  broadcastTo S8x256 (shapeCast S1x256 (extractStridedSlice S1x256 ![6, 0] (prev p) slices_S8x256_o6_0_S1x256)
    shapeCasts_S1x256_S1x256) broadcasts_S1x256_S8x256

/-- Carried row 7, eight times. -/
def row7 (p : Vec F S1x8x256 .f32) : FVec F S8x256 .f32 :=
  broadcastTo S8x256 (shapeCast S1x256 (extractStridedSlice S1x256 ![7, 0] (prev p) slices_S8x256_o7_0_S1x256)
    shapeCasts_S1x256_S1x256) broadcasts_S1x256_S8x256

/-- Whether a row of the first eight is row `n`. -/
def isRow (n : BitVec 32) : IVec S8x256 1 :=
  cmpi .eq (iota .tc S8x256 32 [0] iota_S8x256_d0_w32) (broadcast S8x256 n)

/-- The rows one down, the first one carried. -/
def shift1 (u : FVec F S1024x256 .f32) (p : Vec F S1x8x256 .f32) : FVec F S1024x256 .f32 :=
  concatenate S1024x256 0
    [⟨S8x256, select (isRow 0#32) (row7 p)
        (extractStridedSlice S8x256 ![0, 0] (dynamicRotate 0 1#32 none u rotates_S1024x256_d0) slices_S1024x256_o0_0_S8x256)⟩,
     ⟨S1016x256, extractStridedSlice S1016x256 ![8, 0] (dynamicRotate 0 1#32 none u rotates_S1024x256_d0)
        slices_S1024x256_o8_0_S1016x256⟩] concatenates_S8x256_S1016x256_S1024x256_d0

/-- The rows two down, the first two carried. -/
def shift2 (u : FVec F S1024x256 .f32) (p : Vec F S1x8x256 .f32) : FVec F S1024x256 .f32 :=
  concatenate S1024x256 0
    [⟨S8x256, select (isRow 1#32) (row7 p) (select (isRow 0#32) (row6 p)
        (extractStridedSlice S8x256 ![0, 0] (dynamicRotate 0 2#32 none u rotates_S1024x256_d0) slices_S1024x256_o0_0_S8x256))⟩,
     ⟨S1016x256, extractStridedSlice S1016x256 ![8, 0] (dynamicRotate 0 2#32 none u rotates_S1024x256_d0)
        slices_S1024x256_o8_0_S1016x256⟩] concatenates_S8x256_S1016x256_S1024x256_d0

/-- The causal convolution of a tile over three rows. -/
def conv (u : FVec F S1024x256 .f32) (p : Vec F S1x8x256 .f32) (w : Vec F S1x3x256 .f32) : FVec F S1024x256 .f32 :=
  addf (addf
    (mulf (broadcastTo S1024x256 (extractStridedSlice S1x256 ![0, 0] (taps w) slices_S3x256_o0_0_S1x256)
      broadcasts_S1x256_S1024x256) (shift2 u p))
    (mulf (broadcastTo S1024x256 (extractStridedSlice S1x256 ![1, 0] (taps w) slices_S3x256_o1_0_S1x256)
      broadcasts_S1x256_S1024x256) (shift1 u p)))
    (mulf (broadcastTo S1024x256 (extractStridedSlice S1x256 ![2, 0] (taps w) slices_S3x256_o2_0_S1x256)
      broadcasts_S1x256_S1024x256) u)

/-- The gate's half through its activation, times the value's half. -/
def gate (a v : FVec F S1024x256 .f32) : FVec F S1024x256 .bf16 :=
  truncf .bf16 (mulf (mulf a (divf (broadcast S1024x256 (Scalar.ofBits .f32 0x3F800000#32))
    (addf (broadcast S1024x256 (Scalar.ofBits .f32 0x3F800000#32))
      (exp (subf (broadcast S1024x256 (Scalar.ofBits .f32 0x00000000#32)) a))))) v) bitsLt_bf16_f32

/-- A tile's last eight rows. -/
def tail (u : FVec F S1024x256 .f32) : FVec F S1x8x256 .f32 :=
  shapeCast S1x8x256 (extractStridedSlice S8x256 ![1016, 0] u slices_S1024x256_o1016_0_S8x256) shapeCasts_S8x256_S1x8x256

theorem inbU : ∀ (n : Fin 22) (a : Fin 3), (![0, 0, 256 * n.val] : Fin 3 → ℕ) a + S1x1024x256.size a ≤ S1x1024x5632.size a := by
  decide
theorem inbW : ∀ (n : Fin 22) (a : Fin 3), (![0, 0, 256 * n.val] : Fin 3 → ℕ) a + S1x3x256.size a ≤ S1x3x5632.size a := by
  decide
theorem inbC : ∀ (j : Fin 11) (a : Fin 3), (![j.val, 0, 0] : Fin 3 → ℕ) a + S1x8x256.size a ≤ S11x8x256.size a := by
  decide

/-- Tile `j` of a carried buffer. -/
def tileC (x : Vec F S11x8x256 .f32) (j : Fin 11) : Vec F S1x8x256 .f32 :=
  View.ld x (Rect.unit (s := S11x8x256) ![j.val, 0, 0] S1x8x256.size (inbC j))

/-- Tile `n` of the convolution's weights. -/
def tileW (x : Vec F S1x3x5632 .f32) (n : Fin 22) : Vec F S1x3x256 .f32 :=
  View.ld x (Rect.unit (s := S1x3x5632) ![0, 0, 256 * n.val] S1x3x256.size (inbW n))

/-- The gate's half of tile `j` is tile `j` of the columns. -/
def gateTile (j : Fin 11) : Fin 22 := ⟨j.val, by omega⟩
/-- The value's half of tile `j` is tile `11 + j` of the columns. -/
def valueTile (j : Fin 11) : Fin 22 := ⟨11 + j.val, by omega⟩

section Point
variable (x0 : Vec F S1024x1024 .f32) (x1 : Vec F S1x1024 .f32) (x2 : Vec F S1x1024x5632 .bf16) (x3 : Vec F S1x3x5632 .f32)
  (x4 : Vec F S1x2816x1024 .bf16) (x5 : Vec F S1x1024 .f32) (ca cv : Fin 11 → Vec F S1x8x256 .f32)

/-- Tile `n` of the point's up-projection. -/
def upTile (n : Fin 22) : FVec F S1024x256 .f32 :=
  up (k0_pay4 x0 x1) (View.ld x2 (Rect.unit (s := S1x1024x5632) ![0, 0, 256 * n.val] S1x1024x256.size (inbU n)))

/-- Tile `j` of what the down-projection reads. -/
def actTile (j : Fin 11) : FVec F S1024x256 .bf16 :=
  gate (conv (upTile x0 x1 x2 (gateTile j)) (ca j) (tileW x3 (gateTile j)))
    (conv (upTile x0 x1 x2 (valueTile j)) (cv j) (tileW x3 (valueTile j)))

/-- The rows plus the first six tiles' part of the down-projection. -/
def sum6 (x : Vec F S1024x1024 .f32) (a : Fin 11 → FVec F S1024x256 .bf16) (w : Vec F S1x1536x1024 .bf16) : FVec F S1024x1024 .f32 :=
  addf (shapeCast S1024x1024 x shapeCasts_S1024x1024_S1024x1024) (matmul dot_S1024x1536_S1536x1024_S1024x1024_1_0_0_1_n_n none
    (concatenate S1024x1536 1 [⟨S1024x256, a 0⟩, ⟨S1024x256, a 1⟩, ⟨S1024x256, a 2⟩, ⟨S1024x256, a 3⟩, ⟨S1024x256, a 4⟩,
      ⟨S1024x256, a 5⟩] concatenates_S1024x256_S1024x256_S1024x256_S1024x256_S1024x256_S1024x256_S1024x1536_d1)
    (shapeCast S1536x1024 w shapeCasts_S1x1536x1024_S1536x1024) (constant S1024x1024 .f32 0x00000000#32))

/-- … plus the last five tiles' part. -/
def sum5 (x : FVec F S1024x1024 .f32) (a : Fin 11 → FVec F S1024x256 .bf16) (w : Vec F S1x1280x1024 .bf16) : FVec F S1024x1024 .f32 :=
  addf (shapeCast S1024x1024 x shapeCasts_S1024x1024_S1024x1024) (matmul dot_S1024x1280_S1280x1024_S1024x1024_1_0_0_1_n_n none
    (concatenate S1024x1280 1 [⟨S1024x256, a 6⟩, ⟨S1024x256, a 7⟩, ⟨S1024x256, a 8⟩, ⟨S1024x256, a 9⟩, ⟨S1024x256, a 10⟩]
      concatenates_S1024x256_S1024x256_S1024x256_S1024x256_S1024x256_S1024x1280_d1)
    (shapeCast S1280x1024 w shapeCasts_S1x1280x1024_S1280x1024) (constant S1024x1024 .f32 0x00000000#32))

/-- The closing norm of the rows. -/
def normed (x : FVec F S1024x1024 .f32) (w : Vec F S1x1024 .f32) : FVec F S1024x1024 .f32 :=
  k0_pay1 (k0_pay172 x) (k0_pay173 w) (k0_pay174 x) (Scalar.ofBits .f32 0x44800000#32)

/-- The point's rows plus their feed-forward. -/
def blockSum : FVec F S1024x1024 .f32 :=
  sum5 (sum6 x0 (actTile x0 x1 x2 x3 ca cv)
      (View.ld x4 (Rect.unit (s := S1x2816x1024) ![0, 0, 0] S1x1536x1024.size inb_S1x2816x1024_S1x1536x1024_0_0_0)))
    (actTile x0 x1 x2 x3 ca cv)
    (View.ld x4 (Rect.unit (s := S1x2816x1024) ![0, 1536, 0] S1x1280x1024.size inb_S1x2816x1024_S1x1280x1024_0_1536_0))

/-- … and normed: the output block of the last layer's call. -/
def blockOut : FVec F S1024x1024 .f32 := normed (blockSum x0 x1 x2 x3 x4 ca cv) x5

/-- The rows the point carries on for the tiles `g`. -/
def carry (g : Fin 11 → Fin 22) : Vec F S11x8x256 .f32 := fun y =>
  tail (upTile x0 x1 x2 (g (y 0))) (ix3 (0 : Fin 1) (y 1 : Fin 8) (y 2 : Fin 256))

theorem carry_emb (g : Fin 11 → Fin 22) (j : Fin 11) (x : S1x8x256.Idx) :
    carry x0 x1 x2 g ((Rect.unit (s := S11x8x256) ![j.val, 0, 0] S1x8x256.size (inbC j)).emb x)
      = tail (upTile x0 x1 x2 (g j)) x := by
  have hx0 : (x 0).val < 1 := (x 0).isLt
  refine congr (congrArg (fun n => tail (upTile x0 x1 x2 (g n))) ?_) ?_
  · exact Fin.ext (show j.val + 1 * (x 0).val = j.val by omega)
  · funext a
    apply Fin.ext
    match a with
    | ⟨0, _⟩ => show 0 = (x 0).val; omega
    | ⟨1, _⟩ => show 0 + 1 * (x 1).val = (x 1).val; omega
    | ⟨2, _⟩ => show 0 + 1 * (x 2).val = (x 2).val; omega

end Point

theorem hz : (![0, 0] : Fin 2 → Nat) = fun _ => 0 := funext fun a => by fin_cases a <;> rfl

section Cases
variable (c : Dev nD) (i : grid0.Coords) (a1 : Memref sig .tc .vmem S1024x1024 .f32) (h1 : a1.IsWhole)
  (a2 : Memref sig .tc .vmem S1x1024 .f32) (h2 : a2.IsWhole) (a3 : Memref sig .tc .vmem S1x1024x5632 .bf16) (h3 : a3.IsWhole)
  (a4 : Memref sig .tc .vmem S1x3x5632 .f32) (h4 : a4.IsWhole) (a5 : Memref sig .tc .vmem S1x2816x1024 .bf16) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S11x8x256 .f32) (h9 : a9.IsWhole)
  (a10 : Memref sig .tc .vmem S11x8x256 .f32) (h10 : a10.IsWhole)
  (x0 : Vec F S1024x1024 .f32) (x1 : Vec F S1x1024 .f32) (x2 : Vec F S1x1024x5632 .bf16) (x3 : Vec F S1x3x5632 .f32)
  (x4 : Vec F S1x2816x1024 .bf16) (x5 : Vec F S1x1024 .f32)

/-- A later point of a sequence: the output block, over the rows the scratch buffers hold. -/
theorem out_B (hc : ¬cond0_0 i) (xs1 xs2 : Vec F S11x8x256 .f32) :
    out0_B_6 c i a1 h1 a2 h2 a3 h3 a4 h4 a5 h5 a6 h6 a7 h7 a8 h8 a9 h9 a10 h10 hc x0 x1 x2 x3 x4 x5 xs1 xs2
      = blockOut x0 x1 x2 x3 x4 x5 (tileC xs1) (tileC xs2) := by
  unfold out0_B_6
  rw [View.read_writes_junk_eq_canon]
  unfold kernelRun0_B
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip]
  rw [View.canon_cons_unit_zero (S := S1024x1024) hz]
  rfl

/-- … the rows it carries on for the gate's half. -/
theorem sout_B_1 (hc : ¬cond0_0 i) (xs1 xs2 : Vec F S11x8x256 .f32) :
    sout0_B_1 c i a1 h1 a2 h2 a3 h3 a4 h4 a5 h5 a6 h6 a7 h7 a8 h8 a9 h9 a10 h10 hc x0 x1 x2 x3 x4 x5 xs1 xs2
      = carry x0 x1 x2 gateTile := by
  unfold sout0_B_1
  rw [View.read_writes_junk_eq_canon]
  funext y
  refine View.canon_apply_of_pieces _ _ (View.PiecesOf.mem ?_) y
    (scover0_B_1 c i a1 h1 a2 h2 a3 h3 a4 h4 a5 h5 a6 h6 a7 h7 a8 h8 a9 h9 a10 h10 hc x0 x1 x2 x3 x4 x5 xs1 xs2 y)
  unfold kernelRun0_B
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip]
  have e := fun j x => (carry_emb x0 x1 x2 gateTile j x).symm
  exact ⟨e 10, e 9, e 8, e 7, e 6, e 5, e 4, e 3, e 2, e 1, e 0, trivial⟩

/-- … and for the value's half. -/
theorem sout_B_2 (hc : ¬cond0_0 i) (xs1 xs2 : Vec F S11x8x256 .f32) :
    sout0_B_2 c i a1 h1 a2 h2 a3 h3 a4 h4 a5 h5 a6 h6 a7 h7 a8 h8 a9 h9 a10 h10 hc x0 x1 x2 x3 x4 x5 xs1 xs2
      = carry x0 x1 x2 valueTile := by
  unfold sout0_B_2
  rw [View.read_writes_junk_eq_canon]
  funext y
  refine View.canon_apply_of_pieces _ _ (View.PiecesOf.mem ?_) y
    (scover0_B_2 c i a1 h1 a2 h2 a3 h3 a4 h4 a5 h5 a6 h6 a7 h7 a8 h8 a9 h9 a10 h10 hc x0 x1 x2 x3 x4 x5 xs1 xs2 y)
  unfold kernelRun0_B
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip]
  have e := fun j x => (carry_emb x0 x1 x2 valueTile j x).symm
  exact ⟨e 10, e 9, e 8, e 7, e 6, e 5, e 4, e 3, e 2, e 1, e 0, trivial⟩

/-- The first point of a sequence: the output block, over zero rows. -/
theorem out_A (hc : cond0_0 i) :
    out0_A_6 c i a1 h1 a2 h2 a3 h3 a4 h4 a5 h5 a6 h6 a7 h7 a8 h8 a9 h9 a10 h10 hc x0 x1 x2 x3 x4 x5
      = blockOut x0 x1 x2 x3 x4 x5 (tileC k0_pay2) (tileC k0_pay3) := by
  unfold out0_A_6
  rw [View.read_writes_junk_eq_canon]
  unfold kernelRun0_A
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip, View.readCov_fill]
  rw [View.canon_cons_unit_zero (S := S1024x1024) hz]
  rfl

/-- … the rows it carries on for the gate's half. -/
theorem sout_A_1 (hc : cond0_0 i) :
    sout0_A_1 c i a1 h1 a2 h2 a3 h3 a4 h4 a5 h5 a6 h6 a7 h7 a8 h8 a9 h9 a10 h10 hc x0 x1 x2 x3 x4 x5
      = carry x0 x1 x2 gateTile := by
  unfold sout0_A_1
  rw [View.read_writes_junk_eq_canon]
  unfold kernelRun0_A
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip, View.readCov_fill]
  funext y
  have e := fun j x => (carry_emb x0 x1 x2 gateTile j x).symm
  refine View.canon_append_of_piecesOf _ _ [_, _, _, _, _, _, _, _, _, _, _] ⟨e 10, e 9, e 8, e 7, e 6, e 5, e 4, e 3, e 2, e 1, e 0, trivial⟩ y ?_
  exact View.cover_of_tiled (s := S11x8x256) _ S1x8x256.size (by sl_kernel_rfl) y

/-- … and for the value's half. -/
theorem sout_A_2 (hc : cond0_0 i) :
    sout0_A_2 c i a1 h1 a2 h2 a3 h3 a4 h4 a5 h5 a6 h6 a7 h7 a8 h8 a9 h9 a10 h10 hc x0 x1 x2 x3 x4 x5
      = carry x0 x1 x2 valueTile := by
  unfold sout0_A_2
  rw [View.read_writes_junk_eq_canon]
  unfold kernelRun0_A
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip, View.readCov_fill]
  funext y
  have e := fun j x => (carry_emb x0 x1 x2 valueTile j x).symm
  refine View.canon_append_of_piecesOf _ _ [_, _, _, _, _, _, _, _, _, _, _] ⟨e 10, e 9, e 8, e 7, e 6, e 5, e 4, e 3, e 2, e 1, e 0, trivial⟩ y ?_
  exact View.cover_of_tiled (s := S11x8x256) _ S1x8x256.size (by sl_kernel_rfl) y

end Cases

end Cert.FfnIdeal.Value
-- ==== Proof.FfnTiles.lean ====
/-
  The feed-forward part of a layer over extended reals, and what the kernel's vector operations are at an element.

  `Args.out` is the layer's mathematics: a row normed (`rms`), through the up-projection (`Args.up`), through the causal
  convolution over the rows of its sequence (`Args.conv`), the two halves joined (`Args.act`), through the down-projection,
  added to the row (`Args.sum`) and, in the last layer, normed again. The rest of the file reads the kernel's tile operations at an element.
-/
module

public import proofs.«01_k».proof.Proof.FfnBlock

@[expose] public section

set_option maxRecDepth 65536
set_option maxHeartbeats 1000000

noncomputable section

namespace Cert.FfnMath

open Idealize.ShloMosaic

/-- A row scaled to mean square one (plus 1e-6) and by the weights `w`. -/
def rms (x w : Fin 1024 → EReal) (k : Fin 1024) : EReal :=
  x k * Ideal.rsqrt (Ideal.div (∑ k' : Fin 1024, x k' * x k') (Ideal.ofBits .f32 0x44800000#32)
    + Ideal.ofBits .f32 0x358637BD#32) * w k

/-- The gate through its activation, times the value. -/
def gated (a v : EReal) : EReal :=
  a * Ideal.div (Ideal.ofBits .f32 0x3F800000#32) (Ideal.ofBits .f32 0x3F800000#32 + Ideal.exp (-a)) * v

/-- The arguments of the call: the rows, and the layer's weights. -/
structure Args where
  /-- the rows, 4096 of each of four sequences -/
  x : Fin 16384 → Fin 1024 → EReal
  /-- the norm's weights -/
  nw : Fin 1024 → EReal
  /-- the up-projection -/
  wu : Fin 1024 → Fin 5632 → EReal
  /-- the convolution's weights, the oldest row's first -/
  cw : Fin 3 → Fin 5632 → EReal
  /-- the down-projection -/
  wd : Fin 2816 → Fin 1024 → EReal
  /-- the closing norm's weights -/
  fw : Fin 1024 → EReal

namespace Args
variable (A : Args)

/-- The up-projection of a normed row. -/
def up (r : Fin 16384) (c : Fin 5632) : EReal := ∑ k : Fin 1024, rms (A.x r) A.nw k * A.wu k c

/-- The up-projection `n` rows before, zero before the sequence's start. -/
def back (n : ℕ) (r : Fin 16384) (c : Fin 5632) : EReal :=
  if r.val % 4096 < n then 0 else A.up ⟨r.val - n, by omega⟩ c

/-- The causal convolution over three rows. -/
def conv (r : Fin 16384) (c : Fin 5632) : EReal :=
  A.cw 0 c * A.back 2 r c + A.cw 1 c * A.back 1 r c + A.cw 2 c * A.up r c

/-- What the down-projection reads: the two halves joined. -/
def act (r : Fin 16384) (f : Fin 2816) : EReal := gated (A.conv r ⟨f.val, by omega⟩) (A.conv r ⟨2816 + f.val, by omega⟩)

/-- The row plus its feed-forward: the first layer's result. -/
def sum (r : Fin 16384) (l : Fin 1024) : EReal := A.x r l + ∑ f : Fin 2816, A.act r f * A.wd f l

/-- … normed: the last layer's result. -/
def out (r : Fin 16384) (l : Fin 1024) : EReal := rms (A.sum r) A.fw l

end Args

/-- The arguments from the arrays a call takes: layer `n`'s slices of the weights. -/
def args (n : Fin 2) (x : Vec Ideal FfnIdeal.S16384x1024 .f32) (nw : Vec Ideal FfnIdeal.S1024 .f32) (wu : Vec Ideal FfnIdeal.S2x1024x5632 .f32)
    (cw : Vec Ideal FfnIdeal.S2x3x5632 .f32) (wd : Vec Ideal FfnIdeal.S2x2816x1024 .f32) (fw : Vec Ideal FfnIdeal.S1024 .f32) : Args where
  x r k := x (ix2 r k)
  nw k := nw (ix1 k)
  wu k c := wu (ix3 n k c)
  cw q c := cw (ix3 n q c)
  wd f l := wd (ix3 n f l)
  fw k := fw (ix1 k)

end Cert.FfnMath

namespace Cert.FfnIdeal.Value

open Cert.FfnIdeal Cert.FfnIdeal.Gen Cert.FfnMath Idealize.ShloMosaic Idealize.ShloMosaic.TcCoe Idealize.SL.Sem

theorem up_apply (h : Vec Ideal S1024x1024 .bf16) (w : Vec Ideal S1x1024x256 .bf16) (r : Fin 1024) (e : Fin 256) :
    up h w (ix2 r e) = ∑ k : Fin 1024, h (ix2 r k) * w (ix3 0 k e) := by
  pointwise [up]

theorem norm_apply (x : Vec Ideal S1024x1024 .f32) (w : Vec Ideal S1x1024 .f32) (r k : Fin 1024) :
    k0_pay4 x w (ix2 r k) = rms (fun k => x (ix2 r k)) (fun k => w (ix2 0 k)) k := by
  unfold rms
  pointwise [k0_pay4]

theorem normed_apply (x : FVec Ideal S1024x1024 .f32) (w : Vec Ideal S1x1024 .f32) (r k : Fin 1024) :
    normed x w (ix2 r k) = rms (fun k => x (ix2 r k)) (fun k => w (ix2 0 k)) k := by
  unfold rms
  pointwise [normed, k0_pay1, k0_pay172, k0_pay173, k0_pay174]

theorem gate_apply (a v : FVec Ideal S1024x256 .f32) (r : Fin 1024) (e : Fin 256) :
    gate a v (ix2 r e) = gated (a (ix2 r e)) (v (ix2 r e)) := by
  unfold gated
  pointwise [gate]
  rw [zero_sub]

theorem tail_apply (u : FVec Ideal S1024x256 .f32) (q : Fin 8) (e : Fin 256) :
    tail u (ix3 0 q e) = u (ix2 (⟨1016 + q.val, by omega⟩ : Fin 1024) e) := by
  pointwise [tail]

theorem sel {α : Type} (n h : ℕ) (hn : n < 2) (hh : h < 8) (a b : α) :
    Scalar.select (IntOp.cmpi .eq (BitVec.ofNat 32 h) (BitVec.ofNat 32 n)) a b = if h = n then a else b := by
  interval_cases n <;> interval_cases h <;> rfl

theorem shift1_apply (u : FVec Ideal S1024x256 .f32) (p : Vec Ideal S1x8x256 .f32) (r : Fin 1024) (e : Fin 256) :
    shift1 u p (ix2 r e) = if r.val < 1 then p (ix3 0 7 e) else u (ix2 (⟨r.val - 1, by omega⟩ : Fin 1024) e) := by
  pointwise [shift1, isRow, row7, prev]
  by_cases h8 : r.val < 8
  · rw [dif_pos h8, sel 0 _ (by decide) h8]
    by_cases h0 : r.val = 0
    · rw [if_pos h0, if_pos (by omega)]
    · rw [if_neg h0]
      exact (congrArg (fun q => u (ix2 q e)) (Fin.ext (by dsimp only; omega))).trans (if_neg (by omega)).symm
  · rw [dif_neg h8]
    exact (congrArg (fun q => u (ix2 q e)) (Fin.ext (by dsimp only; omega))).trans (if_neg (by omega)).symm

theorem shift2_apply (u : FVec Ideal S1024x256 .f32) (p : Vec Ideal S1x8x256 .f32) (r : Fin 1024) (e : Fin 256) :
    shift2 u p (ix2 r e) = if h : r.val < 2 then p (ix3 0 (⟨6 + r.val, by omega⟩ : Fin 8) e)
      else u (ix2 (⟨r.val - 2, by omega⟩ : Fin 1024) e) := by
  pointwise [shift2, isRow, row7, row6, prev]
  by_cases h8 : r.val < 8
  · rw [dif_pos h8, sel 1 _ (by decide) h8, sel 0 _ (by decide) h8]
    by_cases h1 : r.val = 1
    · rw [if_pos h1, dif_pos (by omega)]
      exact congrArg (fun q => p (ix3 0 q e)) (Fin.ext (show 7 = 6 + r.val by omega))
    · rw [if_neg h1]
      by_cases h0 : r.val = 0
      · rw [if_pos h0, dif_pos (by omega)]
        exact congrArg (fun q => p (ix3 0 q e)) (Fin.ext (show 6 = 6 + r.val by omega))
      · rw [if_neg h0]
        refine Eq.trans ?_ (dif_neg (show ¬r.val < 2 by omega)).symm
        exact congrArg (fun q => u (ix2 q e)) (Fin.ext (by dsimp only; omega))
  · rw [dif_neg h8]
    refine Eq.trans ?_ (dif_neg (show ¬r.val < 2 by omega)).symm
    exact congrArg (fun q => u (ix2 q e)) (Fin.ext (by dsimp only; omega))

theorem conv_apply (u : FVec Ideal S1024x256 .f32) (p : Vec Ideal S1x8x256 .f32) (w : Vec Ideal S1x3x256 .f32)
    (r : Fin 1024) (e : Fin 256) :
    conv u p w (ix2 r e) = w (ix3 0 0 e) * shift2 u p (ix2 r e) + w (ix3 0 1 e) * shift1 u p (ix2 r e)
      + w (ix3 0 2 e) * u (ix2 r e) := by
  pointwise [conv, taps]

theorem sum6_apply (x : Vec Ideal S1024x1024 .f32) (a : Fin 11 → FVec Ideal S1024x256 .bf16) (w : Vec Ideal S1x1536x1024 .bf16)
    (r l : Fin 1024) :
    sum6 x a w (ix2 r l) = x (ix2 r l) + ∑ f : Fin 1536, a ⟨f.val / 256, by omega⟩ (ix2 r (⟨f.val % 256, by omega⟩ : Fin 256))
      * w (ix3 0 f l) := by
  pointwise [sum6]
  refine congrArg (_ + ·) (Finset.sum_congr rfl fun f _ => congrArg (· * _) ?_)
  have hf := f.isLt
  split_ifs <;> exact congrArg₂ (fun (j : Fin 11) e => a j (ix2 r e)) (Fin.ext (by dsimp; omega)) (Fin.ext (by dsimp only; omega))

theorem sum5_apply (x : FVec Ideal S1024x1024 .f32) (a : Fin 11 → FVec Ideal S1024x256 .bf16) (w : Vec Ideal S1x1280x1024 .bf16)
    (r l : Fin 1024) :
    sum5 x a w (ix2 r l) = x (ix2 r l) + ∑ f : Fin 1280, a ⟨6 + f.val / 256, by omega⟩ (ix2 r (⟨f.val % 256, by omega⟩ : Fin 256))
      * w (ix3 0 f l) := by
  pointwise [sum5]
  refine congrArg (_ + ·) (Finset.sum_congr rfl fun f _ => congrArg (· * _) ?_)
  have hf := f.isLt
  split_ifs <;> exact congrArg₂ (fun (j : Fin 11) e => a j (ix2 r e)) (Fin.ext (by dsimp; omega)) (Fin.ext (by dsimp only; omega))

section Loads
variable (x2 : Vec Ideal S1x1024x5632 .bf16) (x3 : Vec Ideal S1x3x5632 .f32) (x4 : Vec Ideal S1x2816x1024 .bf16)

theorem ldU_apply (n : Fin 22) (k : Fin 1024) (e : Fin 256) :
    View.ld x2 (Rect.unit (s := S1x1024x5632) ![0, 0, 256 * n.val] S1x1024x256.size (inbU n)) (ix3 0 k e)
      = x2 (ix3 0 k (⟨256 * n.val + e.val, by omega⟩ : Fin 5632)) := by
  refine congrArg x2 (funext fun a => Fin.ext ?_)
  match a with
  | ⟨0, _⟩ => show 0 + 1 * 0 = 0; omega
  | ⟨1, _⟩ => show 0 + 1 * k.val = k.val; omega
  | ⟨2, _⟩ => show 256 * n.val + 1 * e.val = 256 * n.val + e.val; omega

theorem tileW_apply (n : Fin 22) (k : Fin 3) (e : Fin 256) :
    tileW x3 n (ix3 0 k e) = x3 (ix3 0 k (⟨256 * n.val + e.val, by omega⟩ : Fin 5632)) := by
  refine congrArg x3 (funext fun a => Fin.ext ?_)
  match a with
  | ⟨0, _⟩ => show 0 + 1 * 0 = 0; omega
  | ⟨1, _⟩ => show 0 + 1 * k.val = k.val; omega
  | ⟨2, _⟩ => show 256 * n.val + 1 * e.val = 256 * n.val + e.val; omega

theorem tileC_apply (x : Vec Ideal S11x8x256 .f32) (j : Fin 11) (q : Fin 8) (e : Fin 256) :
    tileC x j (ix3 0 q e) = x (ix3 j q e) := by
  refine congrArg x (funext fun a => Fin.ext ?_)
  match a with
  | ⟨0, _⟩ => show j.val + 1 * 0 = j.val; omega
  | ⟨1, _⟩ => show 0 + 1 * q.val = q.val; omega
  | ⟨2, _⟩ => show 0 + 1 * e.val = e.val; omega

theorem ldD6_apply (f : Fin 1536) (l : Fin 1024) :
    View.ld x4 (Rect.unit (s := S1x2816x1024) ![0, 0, 0] S1x1536x1024.size inb_S1x2816x1024_S1x1536x1024_0_0_0) (ix3 0 f l)
      = x4 (ix3 0 (⟨f.val, by omega⟩ : Fin 2816) l) := by
  refine congrArg x4 (funext fun a => Fin.ext ?_)
  match a with
  | ⟨0, _⟩ => show 0 + 1 * 0 = 0; omega
  | ⟨1, _⟩ => show 0 + 1 * f.val = f.val; omega
  | ⟨2, _⟩ => show 0 + 1 * l.val = l.val; omega

theorem ldD5_apply (f : Fin 1280) (l : Fin 1024) :
    View.ld x4 (Rect.unit (s := S1x2816x1024) ![0, 1536, 0] S1x1280x1024.size inb_S1x2816x1024_S1x1280x1024_0_1536_0) (ix3 0 f l)
      = x4 (ix3 0 (⟨1536 + f.val, by omega⟩ : Fin 2816) l) := by
  refine congrArg x4 (funext fun a => Fin.ext ?_)
  match a with
  | ⟨0, _⟩ => show 0 + 1 * 0 = 0; omega
  | ⟨1, _⟩ => show 1536 + 1 * f.val = 1536 + f.val; omega
  | ⟨2, _⟩ => show 0 + 1 * l.val = l.val; omega

end Loads

end Cert.FfnIdeal.Value
-- ==== Proof.FfnPoint.lean ====
/-
  One grid point of the feed-forward, from blocks that hold its rows and weights (`Blocks`), and the walk over the points.

  A grid point takes 1024 rows, four points to a sequence. `conv_done` reads the convolution at a point's row when the
  carried rows are the last of the point before, or zero at a sequence's start (`Halo`); `sum_done` and `out_done` read
  what the point writes; `halos` says that a run whose every point carries on its own last rows meets `Halo` at each point.
-/
module

public import proofs.«01_k».proof.Proof.FfnTiles

@[expose] public section

set_option maxRecDepth 16384
set_option maxHeartbeats 400000

noncomputable section

namespace Cert.FfnMath

open Cert.FfnIdeal Cert.FfnIdeal.Gen Cert.FfnIdeal.Value Idealize.ShloMosaic

/-- Row `r` of point `t`. -/
def row (t : Fin 16) (r : Fin 1024) : Fin 16384 := ⟨1024 * t.val + r.val, by omega⟩

/-- Column `e` of tile `n`. -/
def col (n : Fin 22) (e : Fin 256) : Fin 5632 := ⟨256 * n.val + e.val, by omega⟩

/-- The blocks point `t` reads hold its rows and the weights. -/
structure Blocks (A : Args) (t : Fin 16) (b0 : Vec Ideal S1024x1024 .f32) (b1 : Vec Ideal S1x1024 .f32)
    (b2 : Vec Ideal S1x1024x5632 .bf16) (b3 : Vec Ideal S1x3x5632 .f32) (b4 : Vec Ideal S1x2816x1024 .bf16)
    (b5 : Vec Ideal S1x1024 .f32) : Prop where
  x : ∀ r k : Fin 1024, b0 (ix2 r k) = A.x (row t r) k
  nw : ∀ k : Fin 1024, b1 (ix2 0 k) = A.nw k
  wu : ∀ (k : Fin 1024) (l : Fin 5632), b2 (ix3 0 k l) = A.wu k l
  cw : ∀ (q : Fin 3) (l : Fin 5632), b3 (ix3 0 q l) = A.cw q l
  wd : ∀ (f : Fin 2816) (l : Fin 1024), b4 (ix3 0 f l) = A.wd f l
  fw : ∀ k : Fin 1024, b5 (ix2 0 k) = A.fw k

/-- The carried rows are the last eight of the point before, or zero at a sequence's start. -/
def Halo (A : Args) (t : Fin 16) (g : Fin 11 → Fin 22) (p : Fin 11 → Vec Ideal S1x8x256 .f32) : Prop :=
  ∀ (j : Fin 11) (q : Fin 8) (e : Fin 256), p j (ix3 0 q e) = if t.val % 4 = 0 then 0
    else A.up ⟨1024 * t.val + q.val - 8, by omega⟩ (col (g j) e)

section Point
variable {A : Args} {t : Fin 16} {b0 : Vec Ideal S1024x1024 .f32} {b1 : Vec Ideal S1x1024 .f32}
  {b2 : Vec Ideal S1x1024x5632 .bf16} {b3 : Vec Ideal S1x3x5632 .f32} {b4 : Vec Ideal S1x2816x1024 .bf16}
  {b5 : Vec Ideal S1x1024 .f32}

/-- Tile `n` of the point's up-projection. -/
theorem up_done (h : Blocks A t b0 b1 b2 b3 b4 b5) (n : Fin 22) (r : Fin 1024) (e : Fin 256) :
    upTile b0 b1 b2 n (ix2 r e) = A.up (row t r) (col n e) := by
  unfold upTile Args.up
  rw [up_apply]
  refine Finset.sum_congr rfl fun k _ => ?_
  rw [norm_apply, ldU_apply, h.wu]
  rw [show (fun k => b0 (ix2 r k)) = A.x (row t r) from funext fun k => h.x r k,
    show (fun k => b1 (ix2 0 k)) = A.nw from funext fun k => h.nw k]
  rfl

theorem shift1_done {g : Fin 11 → Fin 22} {p : Fin 11 → Vec Ideal S1x8x256 .f32} (h : Blocks A t b0 b1 b2 b3 b4 b5) (hp : Halo A t g p) (j : Fin 11)
    (r : Fin 1024) (e : Fin 256) : shift1 (upTile b0 b1 b2 (g j)) (p j) (ix2 r e) = A.back 1 (row t r) (col (g j) e) := by
  rw [shift1_apply]
  have ht := t.isLt
  unfold Args.back
  by_cases hr : r.val < 1
  · rw [if_pos hr, hp]
    refine if_congr (by show _ ↔ (1024 * t.val + r.val) % 4096 < 1; omega) rfl ?_
    exact congrArg (fun q => A.up q _) (Fin.ext (show 1024 * t.val + 7 - 8 = 1024 * t.val + r.val - 1 by omega))
  · rw [if_neg hr, if_neg (by show ¬(1024 * t.val + r.val) % 4096 < 1; omega), up_done h]
    exact congrArg (fun q => A.up q _) (Fin.ext (show 1024 * t.val + (r.val - 1) = 1024 * t.val + r.val - 1 by omega))

theorem shift2_done {g : Fin 11 → Fin 22} {p : Fin 11 → Vec Ideal S1x8x256 .f32} (h : Blocks A t b0 b1 b2 b3 b4 b5) (hp : Halo A t g p) (j : Fin 11)
    (r : Fin 1024) (e : Fin 256) : shift2 (upTile b0 b1 b2 (g j)) (p j) (ix2 r e) = A.back 2 (row t r) (col (g j) e) := by
  rw [shift2_apply]
  have ht := t.isLt
  unfold Args.back
  by_cases hr : r.val < 2
  · rw [dif_pos hr, hp]
    by_cases h0 : t.val % 4 = 0
    · rw [if_pos h0, if_pos (by show (1024 * t.val + r.val) % 4096 < 2; omega)]
    · rw [if_neg h0, if_neg (by show ¬(1024 * t.val + r.val) % 4096 < 2; omega)]
      exact congrArg (fun q => A.up q _)
        (Fin.ext (show 1024 * t.val + (6 + r.val) - 8 = 1024 * t.val + r.val - 2 by omega))
  · rw [dif_neg hr, if_neg (by show ¬(1024 * t.val + r.val) % 4096 < 2; omega), up_done h]
    exact congrArg (fun q => A.up q _) (Fin.ext (show 1024 * t.val + (r.val - 2) = 1024 * t.val + r.val - 2 by omega))

theorem conv_done {g : Fin 11 → Fin 22} {p : Fin 11 → Vec Ideal S1x8x256 .f32} (h : Blocks A t b0 b1 b2 b3 b4 b5) (hp : Halo A t g p) (j : Fin 11)
    (r : Fin 1024) (e : Fin 256) :
    conv (upTile b0 b1 b2 (g j)) (p j) (tileW b3 (g j)) (ix2 r e) = A.conv (row t r) (col (g j) e) := by
  rw [conv_apply, shift1_done h hp, shift2_done h hp, up_done h, tileW_apply, tileW_apply, tileW_apply, h.cw, h.cw, h.cw]
  rfl

variable {ca cv : Fin 11 → Vec Ideal S1x8x256 .f32}

theorem act_done (h : Blocks A t b0 b1 b2 b3 b4 b5) (ha : Halo A t gateTile ca) (hv : Halo A t valueTile cv) (j : Fin 11) (r : Fin 1024) (e : Fin 256) :
    actTile b0 b1 b2 b3 ca cv j (ix2 r e)
      = A.act (row t r) ⟨256 * j.val + e.val, by omega⟩ := by
  unfold actTile
  rw [gate_apply]
  refine congrArg₂ gated (conv_done h ha j r e) ((conv_done h hv j r e).trans ?_)
  exact congrArg (A.conv (row t r)) (Fin.ext (show 256 * (11 + j.val) + e.val = 2816 + (256 * j.val + e.val) by omega))

/-- A point's rows plus their feed-forward. -/
theorem sum_done (h : Blocks A t b0 b1 b2 b3 b4 b5) (ha : Halo A t gateTile ca) (hv : Halo A t valueTile cv) (r l : Fin 1024) :
    blockSum b0 b1 b2 b3 b4 ca cv (ix2 r l) = A.sum (row t r) l := by
  unfold blockSum Args.sum
  rw [sum5_apply, sum6_apply, h.x, add_assoc]
  refine congrArg (_ + ·) (Eq.trans ?_ (Fin.sum_univ_add (a := 1536) (b := 1280) _).symm)
  refine congrArg₂ (· + ·) (Finset.sum_congr rfl fun f _ => ?_) (Finset.sum_congr rfl fun f _ => ?_)
  · rw [act_done h ha hv, ldD6_apply, h.wd]
    refine congrArg₂ (fun g d => A.act (row t r) g * A.wd d l) (Fin.ext ?_) (Fin.ext ?_)
    · show 256 * (f.val / 256) + f.val % 256 = f.val; omega
    · rfl
  · rw [act_done h ha hv, ldD5_apply, h.wd]
    refine congrArg₂ (fun g d => A.act (row t r) g * A.wd d l) (Fin.ext ?_) (Fin.ext ?_)
    · show 256 * (6 + f.val / 256) + f.val % 256 = 1536 + f.val; omega
    · rfl

/-- … and normed. -/
theorem out_done (h : Blocks A t b0 b1 b2 b3 b4 b5) (ha : Halo A t gateTile ca) (hv : Halo A t valueTile cv) (r l : Fin 1024) :
    blockOut b0 b1 b2 b3 b4 b5 ca cv (ix2 r l) = A.out (row t r) l := by
  unfold blockOut Args.out
  rw [normed_apply]
  exact congrArg₂ (fun x w => rms x w l) (funext fun l => sum_done h ha hv r l) (funext fun k => h.fw k)

/-- The zero rows a sequence starts from. -/
theorem halo_zero (h0 : t.val % 4 = 0) (g : Fin 11 → Fin 22) :
    Halo A t g (tileC (k0_pay2 (F := Ideal))) ∧ Halo A t g (tileC (k0_pay3 (F := Ideal))) := by
  refine ⟨fun j q e => ?_, fun j q e => ?_⟩
  · rw [if_pos h0, tileC_apply]; pointwise [k0_pay2]
  · rw [if_pos h0, tileC_apply]; pointwise [k0_pay3]

/-- The rows a point carries on, at the next point. -/
theorem halo_carry (h : Blocks A t b0 b1 b2 b3 b4 b5) (u : Fin 16) (hu : u.val = t.val + 1) (h0 : ¬u.val % 4 = 0)
    (g : Fin 11 → Fin 22) : Halo A u g (tileC (carry b0 b1 b2 g)) := by
  intro j q e
  rw [if_neg h0, tileC_apply]
  refine (tail_apply _ q e).trans ((up_done h (g j) _ e).trans ?_)
  exact congrArg (fun r => A.up r _) (Fin.ext (show 1024 * t.val + (1016 + q.val) = 1024 * u.val + q.val - 8 by omega))

end Point

section Walk
variable {A : Args} {N : ℕ} (hN : N = 16) (b0 : Fin N → Vec Ideal S1024x1024 .f32) (b1 : Fin N → Vec Ideal S1x1024 .f32)
  (b2 : Fin N → Vec Ideal S1x1024x5632 .bf16) (b3 : Fin N → Vec Ideal S1x3x5632 .f32)
  (b4 : Fin N → Vec Ideal S1x2816x1024 .bf16) (b5 : Fin N → Vec Ideal S1x1024 .f32)
  (w : Fin N → (ca cv : Fin 11 → Vec Ideal S1x8x256 .f32) → Vec Ideal S1024x1024 .f32)

/-- What point `t` leaves over the carried rows `ca` and `cv`: the block `w`, and its own last rows for the next point. -/
def step (t : Fin N) (ca cv : Fin 11 → Vec Ideal S1x8x256 .f32) :
    Vec Ideal S1024x1024 .f32 × Vec Ideal S11x8x256 .f32 × Vec Ideal S11x8x256 .f32 :=
  (w t ca cv, carry (b0 t) (b1 t) (b2 t) gateTile, carry (b0 t) (b1 t) (b2 t) valueTile)

variable {b0 b1 b2 b3 b4 b5 w}

/-- A run that starts each sequence from zero rows and hands each point's rows on meets `Halo` at every point. -/
theorem halos (hb : ∀ t, Blocks A (t.cast hN) (b0 t) (b1 t) (b2 t) (b3 t) (b4 t) (b5 t))
    (o : (n : ℕ) → n < N → Vec Ideal S1024x1024 .f32 × Vec Ideal S11x8x256 .f32 × Vec Ideal S11x8x256 .f32)
    (hA : ∀ t : Fin N, t.val % 4 = 0 → o t.val t.isLt = step b0 b1 b2 w t (tileC (k0_pay2 (F := Ideal)))
      (tileC (k0_pay3 (F := Ideal))))
    (hB : ∀ t : Fin N, ¬t.val % 4 = 0 → o t.val t.isLt = step b0 b1 b2 w t
      (tileC (o (t.val - 1) (Nat.lt_of_le_of_lt (Nat.sub_le _ _) t.isLt)).2.1)
      (tileC (o (t.val - 1) (Nat.lt_of_le_of_lt (Nat.sub_le _ _) t.isLt)).2.2))
    (t : Fin N) : ∃ ca cv, Halo A (t.cast hN) gateTile ca ∧ Halo A (t.cast hN) valueTile cv
      ∧ (o t.val t.isLt).1 = w t ca cv := by
  have hc : ∀ t : Fin N, (o t.val t.isLt).2 = (carry (b0 t) (b1 t) (b2 t) gateTile, carry (b0 t) (b1 t) (b2 t) valueTile) := by
    intro t
    by_cases h0 : t.val % 4 = 0
    · rw [hA t h0]; rfl
    · rw [hB t h0]; rfl
  by_cases h0 : t.val % 4 = 0
  · exact ⟨_, _, (halo_zero h0 _).1, (halo_zero h0 _).2, congrArg Prod.fst (hA t h0)⟩
  · obtain ⟨n, hn⟩ := t
    obtain _ | n := n
    · exact absurd rfl h0
    have e : (o (n + 1 - 1) _).2 = _ := hc ⟨n, Nat.lt_of_succ_lt hn⟩
    refine ⟨_, _, ?_, ?_, congrArg Prod.fst (hB _ h0)⟩
    · dsimp only
      rw [e]
      exact halo_carry (hb ⟨n, Nat.lt_of_succ_lt hn⟩) _ rfl h0 gateTile
    · dsimp only
      rw [e]
      exact halo_carry (hb ⟨n, Nat.lt_of_succ_lt hn⟩) _ rfl h0 valueTile

end Walk

end Cert.FfnMath
-- ==== Proof.FfnKernel.lean ====
/-
  What the run of the last layer's feed-forward call leaves in its result array, element by element.

  `blocks` says that the windows' blocks hold a point's rows and the last layer's weights; `outs_done` reads what each
  point writes; `result_apply` reads the final array.
-/
module

public import proofs.«01_k».proof.Proof.FfnPoint

@[expose] public section

set_option maxRecDepth 16384
set_option maxHeartbeats 400000

noncomputable section

namespace Cert.FfnIdeal.Value

open Cert.FfnIdeal Cert.FfnIdeal.Gen Cert.FfnMath Idealize.ShloMosaic Idealize.ShloMosaic.TcCoe Idealize.SL.Sem

variable (m : (ℓ : Loc nD τ sig) → Buf (Elt Ideal) ℓ)

/-- The run's arguments. -/
def A (c : Dev nD) : Args :=
  args 1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The index maps over the grid. -/
theorem index_facts : ∀ t : Fin cfg0.N, win0_0.index t = ![t.val, 0] ∧ win0_1.index t = ![0, 0]
    ∧ win0_2.index t = ![1, 0, 0] ∧ win0_3.index t = ![1, 0, 0] ∧ win0_4.index t = ![1, 0, 0] ∧ win0_5.index t = ![0, 0] :=
  (by decide +kernel : ∀ t : Fin grid0.N, win0_0.index t = ![t.val, 0] ∧ win0_1.index t = ![0, 0]
    ∧ win0_2.index t = ![1, 0, 0] ∧ win0_3.index t = ![1, 0, 0] ∧ win0_4.index t = ![1, 0, 0] ∧ win0_5.index t = ![0, 0])

/-- The rows a point reads. -/
theorem iblk0_apply (c : Dev nD) (t : Fin cfg0.N) (r k : Fin 1024) :
    (iblk m c 0 t : Vec Ideal S1024x1024 .f32) (ix2 r k) = (A m c).x (row (t.cast N_0) r) k := by
  unfold iblk
  rw [View.read_apply]
  show V m c main_arg0 _ = _
  rw [V_main_arg0]
  show m _ _ = m _ _
  congr 1
  funext a
  apply Fin.ext
  have h := (index_facts t).1
  match a with
  | ⟨0, _⟩ => show win0_0.index t 0 * 1024 + 1 * r.val = 1024 * t.val + r.val; rw [h]; show t.val * 1024 + _ = _; omega
  | ⟨1, _⟩ => show win0_0.index t 1 * 1024 + 1 * k.val = k.val; rw [h]; show 0 * 1024 + _ = _; omega

/-- The norm's weights, laid out as one row. -/
theorem iblk1_apply (c : Dev nD) (t : Fin cfg0.N) (k : Fin 1024) :
    (iblk m c 1 t : Vec Ideal S1x1024 .f32) (ix2 0 k) = (A m c).nw k := by
  unfold iblk
  rw [View.read_apply]
  show V m c main_v0 _ = _
  have e : V m c main_v0 = broadcastInDim S1x1024 ![1] bcast_S1024_S1x1024_1 (m ((c : Thread nD τ).loc main_arg1)) := by
    dsimp only [V, hostOps0]; after_results
  rw [e]
  pointwise
  show m _ _ = m _ _
  congr 1
  funext a
  apply Fin.ext
  have h := (index_facts t).2.1
  match a with
  | ⟨0, _⟩ => show win0_1.index t 1 * 1024 + 1 * k.val = k.val; rw [h]; show 0 * 1024 + _ = _; omega

/-- The up-projection. -/
theorem iblk2_apply (c : Dev nD) (t : Fin cfg0.N) (k : Fin 1024) (l : Fin 5632) :
    (iblk m c 2 t : Vec Ideal S1x1024x5632 .bf16) (ix3 0 k l) = (A m c).wu k l := by
  unfold iblk
  rw [View.read_apply]
  show V m c main_v1 _ = _
  have e : @Eq (FVec Ideal S2x1024x5632 .bf16) (V m c main_v1)
      (truncf (F := Ideal) (s := S2x1024x5632) (φ := .f32) .bf16 (m ((c : Thread nD τ).loc main_arg2)) bitsLt_bf16_f32) := by
    dsimp only [V, hostOps0]; after_results
  refine (congrFun e _).trans ?_
  show m _ _ = m _ _
  congr 1
  funext a
  apply Fin.ext
  have h := (index_facts t).2.2.1
  match a with
  | ⟨0, _⟩ => show win0_2.index t 0 * 1 + 1 * 0 = 1; rw [h]; rfl
  | ⟨1, _⟩ => show win0_2.index t 1 * 1024 + 1 * k.val = k.val; rw [h]; show 0 * 1024 + _ = _; omega
  | ⟨2, _⟩ => show win0_2.index t 2 * 5632 + 1 * l.val = l.val; rw [h]; show 0 * 5632 + _ = _; omega

/-- The convolution's weights. -/
theorem iblk3_apply (c : Dev nD) (t : Fin cfg0.N) (q : Fin 3) (l : Fin 5632) :
    (iblk m c 3 t : Vec Ideal S1x3x5632 .f32) (ix3 0 q l) = (A m c).cw q l := by
  unfold iblk
  rw [View.read_apply]
  show V m c main_arg3 _ = _
  rw [V_main_arg3]
  show m _ _ = m _ _
  congr 1
  funext a
  apply Fin.ext
  have h := (index_facts t).2.2.2.1
  match a with
  | ⟨0, _⟩ => show win0_3.index t 0 * 1 + 1 * 0 = 1; rw [h]; rfl
  | ⟨1, _⟩ => show win0_3.index t 1 * 3 + 1 * q.val = q.val; rw [h]; show 0 * 3 + _ = _; omega
  | ⟨2, _⟩ => show win0_3.index t 2 * 5632 + 1 * l.val = l.val; rw [h]; show 0 * 5632 + _ = _; omega

/-- The down-projection. -/
theorem iblk4_apply (c : Dev nD) (t : Fin cfg0.N) (f : Fin 2816) (l : Fin 1024) :
    (iblk m c 4 t : Vec Ideal S1x2816x1024 .bf16) (ix3 0 f l) = (A m c).wd f l := by
  unfold iblk
  rw [View.read_apply]
  show V m c main_v2 _ = _
  have e : @Eq (FVec Ideal S2x2816x1024 .bf16) (V m c main_v2)
      (truncf (F := Ideal) (s := S2x2816x1024) (φ := .f32) .bf16 (m ((c : Thread nD τ).loc main_arg4)) bitsLt_bf16_f32) := by
    dsimp only [V, hostOps0]; after_results
  refine (congrFun e _).trans ?_
  show m _ _ = m _ _
  congr 1
  funext a
  apply Fin.ext
  have h := (index_facts t).2.2.2.2.1
  match a with
  | ⟨0, _⟩ => show win0_4.index t 0 * 1 + 1 * 0 = 1; rw [h]; rfl
  | ⟨1, _⟩ => show win0_4.index t 1 * 2816 + 1 * f.val = f.val; rw [h]; show 0 * 2816 + _ = _; omega
  | ⟨2, _⟩ => show win0_4.index t 2 * 1024 + 1 * l.val = l.val; rw [h]; show 0 * 1024 + _ = _; omega

/-- The closing norm's weights, laid out as one row. -/
theorem iblk5_apply (c : Dev nD) (t : Fin cfg0.N) (k : Fin 1024) :
    (iblk m c 5 t : Vec Ideal S1x1024 .f32) (ix2 0 k) = (A m c).fw k := by
  unfold iblk
  rw [View.read_apply]
  show V m c main_v3 _ = _
  have e : V m c main_v3 = broadcastInDim S1x1024 ![1] bcast_S1024_S1x1024_1 (m ((c : Thread nD τ).loc main_arg5)) := by
    dsimp only [V, hostOps0]; after_results
  rw [e]
  pointwise
  show m _ _ = m _ _
  congr 1
  funext a
  apply Fin.ext
  have h := (index_facts t).2.2.2.2.2
  match a with
  | ⟨0, _⟩ => show win0_5.index t 1 * 1024 + 1 * k.val = k.val; rw [h]; show 0 * 1024 + _ = _; omega

/-- A point's blocks hold its rows and the weights. -/
theorem blocks (c : Dev nD) (t : Fin cfg0.N) : Blocks (A m c) (t.cast N_0) (iblk m c 0 t) (iblk m c 1 t) (iblk m c 2 t)
    (iblk m c 3 t) (iblk m c 4 t) (iblk m c 5 t) :=
  ⟨iblk0_apply m c t, iblk1_apply m c t, iblk2_apply m c t, iblk3_apply m c t, iblk4_apply m c t, iblk5_apply m c t⟩

/-- What every point writes: its rows of the feed-forward. -/
theorem outs_done (c : Dev nD) (t : Fin cfg0.N) (r l : Fin 1024) :
    (outsAt0 m c t.val t.isLt).1 (ix2 r l) = (A m c).out (row (t.cast N_0) r) l := by
  obtain ⟨ca, cv, ha, hv, e⟩ := halos (w := fun t => blockOut (iblk m c 0 t) (iblk m c 1 t) (iblk m c 2 t) (iblk m c 3 t)
      (iblk m c 4 t) (iblk m c 5 t)) N_0 (blocks m c) (fun n h => outsAt0 m c n h)
    (fun t h0 => (outsAt0_A m c t h0).trans (by rw [out_A, sout_A_1, sout_A_2]; rfl))
    (fun t h0 => (outsAt0_B m c t h0).trans (by rw [out_B, sout_B_1, sout_B_2]; rfl)) t
  exact (congrFun e _).trans (out_done (blocks m c t) ha hv r l)

/-- The array the run leaves is the feed-forward of its arguments. -/
theorem result_apply (c : Dev nD) (r : Fin 16384) (l : Fin 1024) : G6 m c (ix2 r l) = (A m c).out r l := by
  have hp : pt6Of (ix2 r l) = r.val / 1024 := by
    show 1 * (r.val / 1024 - 0) + 1 * (l.val / 1024 - 0) = _; omega
  have hN : pt6Of (ix2 r l) < cfg0.N := by rw [hp]; exact lt_of_lt_of_eq (by omega) N_0.symm
  have hl : loc6Of (ix2 r l) = ix2 (⟨r.val % 1024, by omega⟩ : Fin 1024) l := by
    funext a
    apply Fin.ext
    match a with
    | ⟨0, _⟩ => rfl
    | ⟨1, _⟩ => show l.val % 1024 = l.val; omega
  unfold G6
  rw [dif_pos hN, ← outsAt0_sweep m c _ hN, hl]
  refine (outs_done m c ⟨_, hN⟩ _ l).trans ?_
  refine congrArg (fun q => (A m c).out q l) (Fin.ext ?_)
  show 1024 * pt6Of (ix2 r l) + r.val % 1024 = r.val
  rw [hp]; omega

end Cert.FfnIdeal.Value

end
-- ==== Proof.FfnRef.lean ====
/-
  The reference's feed-forward, element by element: each of its intermediate arrays is the quantity `Args` names.
-/
module

public import proofs.«01_k».proof.Proof.FfnTiles
public import proofs.«01_k».proof.Proof.Gen.FfnRefIdeal.Read

@[expose] public section

set_option maxRecDepth 16384

noncomputable section

namespace Cert.FfnMath

open Cert.FfnRefIdeal Cert.FfnRefIdeal.Read Idealize.ShloMosaic

variable (x0 : Vec Ideal S16384x1024 .f32) (x1 : Vec Ideal S1024 .f32) (x2 : Vec Ideal S2x1024x5632 .f32)
  (x3 : Vec Ideal S2x3x5632 .f32) (x4 : Vec Ideal S2x2816x1024 .f32) (x5 : Vec Ideal S1024 .f32)

/-- Row `s` of sequence `b`. -/
def seqRow (b : Fin 4) (s : Fin 4096) : Fin 16384 := ⟨b.val * 4096 + s.val, by omega⟩

/-- The normed rows. -/
theorem ref_h (b : Fin 4) (s : Fin 4096) (k : Fin 1024) :
    val_main_v13 (F := Ideal) x0 x1 (ix3 b s k) = rms ((args 1 x0 x1 x2 x3 x4 x5).x (seqRow b s)) (args 1 x0 x1 x2 x3 x4 x5).nw k := by
  pointwise [val_main_v13, val_main_v12, val_main_v11, val_main_v10, val_main_v9, val_main_v8, val_main_v7, val_main_v6,
    val_main_cst_1, val_main_v5, val_main_v4, val_main_cst_0, val_main_v3, val_main_v2, val_main_v1, val_main_cst, val_main_v0]
  rfl

/-- The up-projection. -/
theorem ref_up (b : Fin 4) (s : Fin 4096) (c : Fin 5632) :
    val_main_v16 (F := Ideal) x0 x1 x2 (ix3 b s c) = (args 1 x0 x1 x2 x3 x4 x5).up (seqRow b s) c := by
  pointwise [val_main_v16, val_main_v15, val_main_v14]
  simp only [ref_h x0 x1 x2 x3 x4 x5]
  rfl

/-- The up-projection one row before. -/
theorem ref_back1 (b : Fin 4) (s : Fin 4096) (c : Fin 5632) :
    val_main_v21 (F := Ideal) x0 x1 x2 (ix3 b s c) = (args 1 x0 x1 x2 x3 x4 x5).back 1 (seqRow b s) c := by
  pointwise [val_main_v21, val_main_v20, val_main_v19, val_main_cst_2]
  unfold Args.back
  have hs : (seqRow b s).val % 4096 = s.val := by show (b.val * 4096 + s.val) % 4096 = s.val; omega
  by_cases h : s.val < 1
  · rw [dif_pos h, if_pos (by rw [hs]; exact h)]
  · refine (dif_neg h).trans ((ref_up x0 x1 x2 x3 x4 x5 b _ c).trans (Eq.trans ?_ (if_neg (by rw [hs]; exact h)).symm))
    exact congrArg (fun q => (args 1 x0 x1 x2 x3 x4 x5).up q c)
      (Fin.ext (show b.val * 4096 + (s.val - 1) = b.val * 4096 + s.val - 1 by omega))

/-- The up-projection two rows before. -/
theorem ref_back2 (b : Fin 4) (s : Fin 4096) (c : Fin 5632) :
    val_main_v24 (F := Ideal) x0 x1 x2 (ix3 b s c) = (args 1 x0 x1 x2 x3 x4 x5).back 2 (seqRow b s) c := by
  pointwise [val_main_v24, val_main_v23, val_main_v22, val_main_cst_3]
  unfold Args.back
  have hs : (seqRow b s).val % 4096 = s.val := by show (b.val * 4096 + s.val) % 4096 = s.val; omega
  by_cases h : s.val < 2
  · rw [dif_pos h, if_pos (by rw [hs]; exact h)]
  · refine (dif_neg h).trans ((ref_up x0 x1 x2 x3 x4 x5 b _ c).trans (Eq.trans ?_ (if_neg (by rw [hs]; exact h)).symm))
    exact congrArg (fun q => (args 1 x0 x1 x2 x3 x4 x5).up q c)
      (Fin.ext (show b.val * 4096 + (s.val - 2) = b.val * 4096 + s.val - 2 by omega))

/-- The convolution. -/
theorem ref_conv (b : Fin 4) (s : Fin 4096) (c : Fin 5632) :
    val_main_v41 (F := Ideal) x0 x1 x2 x3 (ix3 b s c) = (args 1 x0 x1 x2 x3 x4 x5).conv (seqRow b s) c := by
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v18, val_main_v17]
  rw [ref_up x0 x1 x2 x3 x4 x5, ref_back1 x0 x1 x2 x3 x4 x5, ref_back2 x0 x1 x2 x3 x4 x5]
  rfl

/-- What the down-projection reads. -/
theorem ref_act (b : Fin 4) (s : Fin 4096) (f : Fin 2816) :
    val_main_v45 (F := Ideal) x0 x1 x2 x3 (ix3 b s f) = (args 1 x0 x1 x2 x3 x4 x5).act (seqRow b s) f := by
  unfold Args.act gated
  pointwise [val_main_v45, val_main_v44, val_main_call0_v5, val_main_call0_v4, val_main_call0_cst_0, val_main_call0_v3,
    val_main_call0_v2, val_main_call0_cst, val_main_call0_v1, val_main_call0_v0, val_main_v43, val_main_v42]
  rw [ref_conv x0 x1 x2 x3 x4 x5, ref_conv x0 x1 x2 x3 x4 x5]

/-- The rows plus their feed-forward. -/
theorem ref_sum (b : Fin 4) (s : Fin 4096) (l : Fin 1024) :
    val_main_v49 (F := Ideal) x0 x1 x2 x3 x4 (ix3 b s l) = (args 1 x0 x1 x2 x3 x4 x5).sum (seqRow b s) l := by
  pointwise [val_main_v49, val_main_v48, val_main_v47, val_main_v46, val_main_v0]
  simp only [ref_act x0 x1 x2 x3 x4 x5]
  rfl

/-- The normed result. -/
theorem ref_out (b : Fin 4) (s : Fin 4096) (l : Fin 1024) :
    val_main_v62 (F := Ideal) x0 x1 x2 x3 x4 x5 (ix3 b s l) = (args 1 x0 x1 x2 x3 x4 x5).out (seqRow b s) l := by
  pointwise [val_main_v62, val_main_v61, val_main_v60, val_main_v59, val_main_v58, val_main_v57, val_main_v56, val_main_v55,
    val_main_cst_6, val_main_v54, val_main_v53, val_main_cst_5, val_main_v52, val_main_v51, val_main_cst_4, val_main_v50]
  simp only [ref_sum x0 x1 x2 x3 x4 x5]
  rfl

/-- The reference's array is the feed-forward of its arguments. -/
theorem ref_result (r : Fin 16384) (l : Fin 1024) :
    val_main_v63 (F := Ideal) x0 x1 x2 x3 x4 x5 (ix2 r l) = (args 1 x0 x1 x2 x3 x4 x5).out r l := by
  pointwise [val_main_v63]
  rw [ref_out]
  exact congrArg (fun q => (args 1 x0 x1 x2 x3 x4 x5).out q l) (Fin.ext (by show r.val / 4096 * 4096 + r.val % 4096 = r.val; omega))

end Cert.FfnMath

end
-- ==== Proof.Ffn.lean ====
/-
  The fused feed-forward computes reference.py's: norm, up-projection, causal convolution, gate, down-projection, the
  residual, and the closing norm.

  Both arrays are `Args.out` of the same arguments: the kernel's by `FfnIdeal.Value.result_apply`, the reference's by
  `FfnMath.ref_result`.
-/
module

public import proofs.«01_k».proof.Defs
public import proofs.«01_k».proof.Proof.FfnKernel
public import proofs.«01_k».proof.Proof.FfnRef
public import proofs.«01_k».proof.Proof.Gen.FfnRefIdeal.Run

@[expose] public section

set_option maxRecDepth 16384

noncomputable section

namespace Cert.FfnMath

open Idealize.ShloMosaic Idealize.ShloMosaic.TcCoe Idealize.SL.Sem

/-- From memories that agree on the arguments, the kernel and the reference end with the same array. -/
theorem algebraic : Cert.algebraic_FfnIdeal_FfnRefIdeal := by
  intro m ρ m' ρ' _ hagree
  refine ⟨fun c => FfnIdeal.Value.G6 m c, FfnIdeal.Value.run (F := Ideal) m ρ, ?_⟩
  refine (θ_run FfnRefIdeal.defs _ _).mono (fun r h c => ⟨(h c).1.trans ?_, (h c).2⟩) (FfnRefIdeal.Value.run (F := Ideal) m' ρ')
  obtain ⟨h0, h1, h2, h3, h4, h5⟩ := hagree c
  rw [FfnRefIdeal.Read.val_main_v63_eq]
  show FfnRefIdeal.Read.val_main_v63 (F := Ideal)
      (m' ((c : Thread FfnRefIdeal.nD FfnRefIdeal.τ).loc FfnRefIdeal.main_arg0))
      (m' ((c : Thread FfnRefIdeal.nD FfnRefIdeal.τ).loc FfnRefIdeal.main_arg1))
      (m' ((c : Thread FfnRefIdeal.nD FfnRefIdeal.τ).loc FfnRefIdeal.main_arg2))
      (m' ((c : Thread FfnRefIdeal.nD FfnRefIdeal.τ).loc FfnRefIdeal.main_arg3))
      (m' ((c : Thread FfnRefIdeal.nD FfnRefIdeal.τ).loc FfnRefIdeal.main_arg4))
      (m' ((c : Thread FfnRefIdeal.nD FfnRefIdeal.τ).loc FfnRefIdeal.main_arg5)) = _
  rw [h0, h1, h2, h3, h4, h5]
  funext j
  rw [eq_ix2 j]
  exact (ref_result _ _ _ _ _ _ _ _).trans (FfnIdeal.Value.result_apply m c _ _).symm

end Cert.FfnMath

end
-- ==== Proof.FfnFirstBlock.lean ====
/-
  What one grid point of the first layer's feed-forward call leaves. Its body is the last layer's without the closing norm,
  so the blocks are the ones `FfnBlock` names: the sum (`blockSum`) and the carried rows (`carry`).
-/
module

public import proofs.«01_k».proof.Proof.FfnBlock
public import proofs.«01_k».proof.Proof.Gen.FfnFirstIdeal.Value

@[expose] public section

set_option maxRecDepth 65536
set_option maxHeartbeats 2000000

noncomputable section

namespace Cert.FfnFirstIdeal.Value

open Cert.FfnFirstIdeal Cert.FfnFirstIdeal.Gen Idealize.ShloMosaic Idealize.ShloMosaic.TcCoe Idealize.SL.Sem
open Cert.FfnIdeal.Value (blockSum tileC carry carry_emb gateTile valueTile hz)

variable {F : FTy → Type} [FloatOps F]

section Cases
variable (c : Dev nD) (i : grid0.Coords) (a1 : Memref sig .tc .vmem S1024x1024 .f32) (h1 : a1.IsWhole)
  (a2 : Memref sig .tc .vmem S1x1024 .f32) (h2 : a2.IsWhole) (a3 : Memref sig .tc .vmem S1x1024x5632 .bf16) (h3 : a3.IsWhole)
  (a4 : Memref sig .tc .vmem S1x3x5632 .f32) (h4 : a4.IsWhole) (a5 : Memref sig .tc .vmem S1x2816x1024 .bf16) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S11x8x256 .f32) (h9 : a9.IsWhole)
  (a10 : Memref sig .tc .vmem S11x8x256 .f32) (h10 : a10.IsWhole)
  (x0 : Vec F S1024x1024 .f32) (x1 : Vec F S1x1024 .f32) (x2 : Vec F S1x1024x5632 .bf16) (x3 : Vec F S1x3x5632 .f32)
  (x4 : Vec F S1x2816x1024 .bf16) (x5 : Vec F S1x1024 .f32)

/-- A later point of a sequence: the output block, over the rows the scratch buffers hold. -/
theorem out_B (hc : ¬cond0_0 i) (xs1 xs2 : Vec F S11x8x256 .f32) :
    out0_B_6 c i a1 h1 a2 h2 a3 h3 a4 h4 a5 h5 a6 h6 a7 h7 a8 h8 a9 h9 a10 h10 hc x0 x1 x2 x3 x4 x5 xs1 xs2
      = blockSum x0 x1 x2 x3 x4 (tileC xs1) (tileC xs2) := by
  unfold out0_B_6
  rw [View.read_writes_junk_eq_canon]
  unfold kernelRun0_B
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip]
  rw [View.canon_cons_unit_zero (S := S1024x1024) hz]
  rfl

/-- … the rows it carries on for the gate's half. -/
theorem sout_B_1 (hc : ¬cond0_0 i) (xs1 xs2 : Vec F S11x8x256 .f32) :
    sout0_B_1 c i a1 h1 a2 h2 a3 h3 a4 h4 a5 h5 a6 h6 a7 h7 a8 h8 a9 h9 a10 h10 hc x0 x1 x2 x3 x4 x5 xs1 xs2
      = carry x0 x1 x2 gateTile := by
  unfold sout0_B_1
  rw [View.read_writes_junk_eq_canon]
  funext y
  refine View.canon_apply_of_pieces _ _ (View.PiecesOf.mem ?_) y
    (scover0_B_1 c i a1 h1 a2 h2 a3 h3 a4 h4 a5 h5 a6 h6 a7 h7 a8 h8 a9 h9 a10 h10 hc x0 x1 x2 x3 x4 x5 xs1 xs2 y)
  unfold kernelRun0_B
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip]
  have e := fun j x => (carry_emb x0 x1 x2 gateTile j x).symm
  exact ⟨e 10, e 9, e 8, e 7, e 6, e 5, e 4, e 3, e 2, e 1, e 0, trivial⟩

/-- … and for the value's half. -/
theorem sout_B_2 (hc : ¬cond0_0 i) (xs1 xs2 : Vec F S11x8x256 .f32) :
    sout0_B_2 c i a1 h1 a2 h2 a3 h3 a4 h4 a5 h5 a6 h6 a7 h7 a8 h8 a9 h9 a10 h10 hc x0 x1 x2 x3 x4 x5 xs1 xs2
      = carry x0 x1 x2 valueTile := by
  unfold sout0_B_2
  rw [View.read_writes_junk_eq_canon]
  funext y
  refine View.canon_apply_of_pieces _ _ (View.PiecesOf.mem ?_) y
    (scover0_B_2 c i a1 h1 a2 h2 a3 h3 a4 h4 a5 h5 a6 h6 a7 h7 a8 h8 a9 h9 a10 h10 hc x0 x1 x2 x3 x4 x5 xs1 xs2 y)
  unfold kernelRun0_B
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip]
  have e := fun j x => (carry_emb x0 x1 x2 valueTile j x).symm
  exact ⟨e 10, e 9, e 8, e 7, e 6, e 5, e 4, e 3, e 2, e 1, e 0, trivial⟩

/-- The first point of a sequence: the output block, over zero rows. -/
theorem out_A (hc : cond0_0 i) :
    out0_A_6 c i a1 h1 a2 h2 a3 h3 a4 h4 a5 h5 a6 h6 a7 h7 a8 h8 a9 h9 a10 h10 hc x0 x1 x2 x3 x4 x5
      = blockSum x0 x1 x2 x3 x4 (tileC FfnIdeal.Gen.k0_pay2) (tileC FfnIdeal.Gen.k0_pay3) := by
  unfold out0_A_6
  rw [View.read_writes_junk_eq_canon]
  unfold kernelRun0_A
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip, View.readCov_fill]
  rw [View.canon_cons_unit_zero (S := S1024x1024) hz]
  rfl

/-- … the rows it carries on for the gate's half. -/
theorem sout_A_1 (hc : cond0_0 i) :
    sout0_A_1 c i a1 h1 a2 h2 a3 h3 a4 h4 a5 h5 a6 h6 a7 h7 a8 h8 a9 h9 a10 h10 hc x0 x1 x2 x3 x4 x5
      = carry x0 x1 x2 gateTile := by
  unfold sout0_A_1
  rw [View.read_writes_junk_eq_canon]
  unfold kernelRun0_A
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip, View.readCov_fill]
  funext y
  have e := fun j x => (carry_emb x0 x1 x2 gateTile j x).symm
  refine View.canon_append_of_piecesOf _ _ [_, _, _, _, _, _, _, _, _, _, _] ⟨e 10, e 9, e 8, e 7, e 6, e 5, e 4, e 3, e 2, e 1, e 0, trivial⟩ y ?_
  exact View.cover_of_tiled (s := S11x8x256) _ S1x8x256.size (by sl_kernel_rfl) y

/-- … and for the value's half. -/
theorem sout_A_2 (hc : cond0_0 i) :
    sout0_A_2 c i a1 h1 a2 h2 a3 h3 a4 h4 a5 h5 a6 h6 a7 h7 a8 h8 a9 h9 a10 h10 hc x0 x1 x2 x3 x4 x5
      = carry x0 x1 x2 valueTile := by
  unfold sout0_A_2
  rw [View.read_writes_junk_eq_canon]
  unfold kernelRun0_A
  dsimp only
  sl_unfold_words
  simp (decide := true) only [View.readAt_eq_ld, h1.read_unread, h2.read_unread, h3.read_unread, h4.read_unread, h5.read_unread,
    h6.read_unread, h9.read_unread, h10.read_unread, View.ld_unit_zero (S := S1024x1024) hz, View.ld_unit_zero (S := S1x1024) hz,
    View.readCov_cons_toLoadRect, ↓View.readCov_skip, View.readCov_fill]
  funext y
  have e := fun j x => (carry_emb x0 x1 x2 valueTile j x).symm
  refine View.canon_append_of_piecesOf _ _ [_, _, _, _, _, _, _, _, _, _, _] ⟨e 10, e 9, e 8, e 7, e 6, e 5, e 4, e 3, e 2, e 1, e 0, trivial⟩ y ?_
  exact View.cover_of_tiled (s := S11x8x256) _ S1x8x256.size (by sl_kernel_rfl) y

end Cases

end Cert.FfnFirstIdeal.Value
-- ==== Proof.FfnFirstKernel.lean ====
/-
  What the run of the first layer's feed-forward call leaves in its result array, element by element.

  `blocks` says that the windows' blocks hold a point's rows and the first layer's weights; `outs_done` reads what each
  point writes; `result_apply` reads the final array.
-/
module

public import proofs.«01_k».proof.Proof.FfnPoint
public import proofs.«01_k».proof.Proof.FfnFirstBlock

@[expose] public section

set_option maxRecDepth 16384
set_option maxHeartbeats 400000

noncomputable section

namespace Cert.FfnFirstIdeal.Value

open Cert.FfnFirstIdeal Cert.FfnFirstIdeal.Gen Cert.FfnMath Idealize.ShloMosaic Idealize.ShloMosaic.TcCoe Idealize.SL.Sem
open Cert.FfnIdeal.Value (blockSum)

variable (m : (ℓ : Loc nD τ sig) → Buf (Elt Ideal) ℓ)

/-- The run's arguments. -/
def A (c : Dev nD) : Args :=
  args 0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The index maps over the grid. -/
theorem index_facts : ∀ t : Fin cfg0.N, win0_0.index t = ![t.val, 0] ∧ win0_1.index t = ![0, 0]
    ∧ win0_2.index t = ![0, 0, 0] ∧ win0_3.index t = ![0, 0, 0] ∧ win0_4.index t = ![0, 0, 0] ∧ win0_5.index t = ![0, 0] :=
  (by decide +kernel : ∀ t : Fin grid0.N, win0_0.index t = ![t.val, 0] ∧ win0_1.index t = ![0, 0]
    ∧ win0_2.index t = ![0, 0, 0] ∧ win0_3.index t = ![0, 0, 0] ∧ win0_4.index t = ![0, 0, 0] ∧ win0_5.index t = ![0, 0])

/-- The rows a point reads. -/
theorem iblk0_apply (c : Dev nD) (t : Fin cfg0.N) (r k : Fin 1024) :
    (iblk m c 0 t : Vec Ideal S1024x1024 .f32) (ix2 r k) = (A m c).x (row (t.cast N_0) r) k := by
  unfold iblk
  rw [View.read_apply]
  show V m c main_arg0 _ = _
  rw [V_main_arg0]
  show m _ _ = m _ _
  congr 1
  funext a
  apply Fin.ext
  have h := (index_facts t).1
  match a with
  | ⟨0, _⟩ => show win0_0.index t 0 * 1024 + 1 * r.val = 1024 * t.val + r.val; rw [h]; show t.val * 1024 + _ = _; omega
  | ⟨1, _⟩ => show win0_0.index t 1 * 1024 + 1 * k.val = k.val; rw [h]; show 0 * 1024 + _ = _; omega

/-- The norm's weights, laid out as one row. -/
theorem iblk1_apply (c : Dev nD) (t : Fin cfg0.N) (k : Fin 1024) :
    (iblk m c 1 t : Vec Ideal S1x1024 .f32) (ix2 0 k) = (A m c).nw k := by
  unfold iblk
  rw [View.read_apply]
  show V m c main_v0 _ = _
  have e : V m c main_v0 = broadcastInDim S1x1024 ![1] bcast_S1024_S1x1024_1 (m ((c : Thread nD τ).loc main_arg1)) := by
    dsimp only [V, hostOps0]; after_results
  rw [e]
  pointwise
  show m _ _ = m _ _
  congr 1
  funext a
  apply Fin.ext
  have h := (index_facts t).2.1
  match a with
  | ⟨0, _⟩ => show win0_1.index t 1 * 1024 + 1 * k.val = k.val; rw [h]; show 0 * 1024 + _ = _; omega

/-- The up-projection. -/
theorem iblk2_apply (c : Dev nD) (t : Fin cfg0.N) (k : Fin 1024) (l : Fin 5632) :
    (iblk m c 2 t : Vec Ideal S1x1024x5632 .bf16) (ix3 0 k l) = (A m c).wu k l := by
  unfold iblk
  rw [View.read_apply]
  show V m c main_v1 _ = _
  have e : @Eq (FVec Ideal S2x1024x5632 .bf16) (V m c main_v1)
      (truncf (F := Ideal) (s := S2x1024x5632) (φ := .f32) .bf16 (m ((c : Thread nD τ).loc main_arg2)) bitsLt_bf16_f32) := by
    dsimp only [V, hostOps0]; after_results
  refine (congrFun e _).trans ?_
  show m _ _ = m _ _
  congr 1
  funext a
  apply Fin.ext
  have h := (index_facts t).2.2.1
  match a with
  | ⟨0, _⟩ => show win0_2.index t 0 * 1 + 1 * 0 = 0; rw [h]; rfl
  | ⟨1, _⟩ => show win0_2.index t 1 * 1024 + 1 * k.val = k.val; rw [h]; show 0 * 1024 + _ = _; omega
  | ⟨2, _⟩ => show win0_2.index t 2 * 5632 + 1 * l.val = l.val; rw [h]; show 0 * 5632 + _ = _; omega

/-- The convolution's weights. -/
theorem iblk3_apply (c : Dev nD) (t : Fin cfg0.N) (q : Fin 3) (l : Fin 5632) :
    (iblk m c 3 t : Vec Ideal S1x3x5632 .f32) (ix3 0 q l) = (A m c).cw q l := by
  unfold iblk
  rw [View.read_apply]
  show V m c main_arg3 _ = _
  rw [V_main_arg3]
  show m _ _ = m _ _
  congr 1
  funext a
  apply Fin.ext
  have h := (index_facts t).2.2.2.1
  match a with
  | ⟨0, _⟩ => show win0_3.index t 0 * 1 + 1 * 0 = 0; rw [h]; rfl
  | ⟨1, _⟩ => show win0_3.index t 1 * 3 + 1 * q.val = q.val; rw [h]; show 0 * 3 + _ = _; omega
  | ⟨2, _⟩ => show win0_3.index t 2 * 5632 + 1 * l.val = l.val; rw [h]; show 0 * 5632 + _ = _; omega

/-- The down-projection. -/
theorem iblk4_apply (c : Dev nD) (t : Fin cfg0.N) (f : Fin 2816) (l : Fin 1024) :
    (iblk m c 4 t : Vec Ideal S1x2816x1024 .bf16) (ix3 0 f l) = (A m c).wd f l := by
  unfold iblk
  rw [View.read_apply]
  show V m c main_v2 _ = _
  have e : @Eq (FVec Ideal S2x2816x1024 .bf16) (V m c main_v2)
      (truncf (F := Ideal) (s := S2x2816x1024) (φ := .f32) .bf16 (m ((c : Thread nD τ).loc main_arg4)) bitsLt_bf16_f32) := by
    dsimp only [V, hostOps0]; after_results
  refine (congrFun e _).trans ?_
  show m _ _ = m _ _
  congr 1
  funext a
  apply Fin.ext
  have h := (index_facts t).2.2.2.2.1
  match a with
  | ⟨0, _⟩ => show win0_4.index t 0 * 1 + 1 * 0 = 0; rw [h]; rfl
  | ⟨1, _⟩ => show win0_4.index t 1 * 2816 + 1 * f.val = f.val; rw [h]; show 0 * 2816 + _ = _; omega
  | ⟨2, _⟩ => show win0_4.index t 2 * 1024 + 1 * l.val = l.val; rw [h]; show 0 * 1024 + _ = _; omega

/-- The closing norm's weights, laid out as one row. -/
theorem iblk5_apply (c : Dev nD) (t : Fin cfg0.N) (k : Fin 1024) :
    (iblk m c 5 t : Vec Ideal S1x1024 .f32) (ix2 0 k) = (A m c).fw k := by
  unfold iblk
  rw [View.read_apply]
  show V m c main_v3 _ = _
  have e : V m c main_v3 = broadcastInDim S1x1024 ![1] bcast_S1024_S1x1024_1 (m ((c : Thread nD τ).loc main_arg5)) := by
    dsimp only [V, hostOps0]; after_results
  rw [e]
  pointwise
  show m _ _ = m _ _
  congr 1
  funext a
  apply Fin.ext
  have h := (index_facts t).2.2.2.2.2
  match a with
  | ⟨0, _⟩ => show win0_5.index t 1 * 1024 + 1 * k.val = k.val; rw [h]; show 0 * 1024 + _ = _; omega

/-- A point's blocks hold its rows and the weights. -/
theorem blocks (c : Dev nD) (t : Fin cfg0.N) : Blocks (A m c) (t.cast N_0) (iblk m c 0 t) (iblk m c 1 t) (iblk m c 2 t)
    (iblk m c 3 t) (iblk m c 4 t) (iblk m c 5 t) :=
  ⟨iblk0_apply m c t, iblk1_apply m c t, iblk2_apply m c t, iblk3_apply m c t, iblk4_apply m c t, iblk5_apply m c t⟩

/-- What every point writes: its rows of the feed-forward. -/
theorem outs_done (c : Dev nD) (t : Fin cfg0.N) (r l : Fin 1024) :
    (outsAt0 m c t.val t.isLt).1 (ix2 r l) = (A m c).sum (row (t.cast N_0) r) l := by
  obtain ⟨ca, cv, ha, hv, e⟩ := halos (w := fun t => blockSum (iblk m c 0 t) (iblk m c 1 t) (iblk m c 2 t) (iblk m c 3 t)
      (iblk m c 4 t)) N_0 (blocks m c) (fun n h => outsAt0 m c n h)
    (fun t h0 => (outsAt0_A m c t h0).trans (by rw [out_A, sout_A_1, sout_A_2]; rfl))
    (fun t h0 => (outsAt0_B m c t h0).trans (by rw [out_B, sout_B_1, sout_B_2]; rfl)) t
  exact (congrFun e _).trans (sum_done (blocks m c t) ha hv r l)

/-- The array the run leaves is the feed-forward of its arguments. -/
theorem result_apply (c : Dev nD) (r : Fin 16384) (l : Fin 1024) : G6 m c (ix2 r l) = (A m c).sum r l := by
  have hp : pt6Of (ix2 r l) = r.val / 1024 := by
    show 1 * (r.val / 1024 - 0) + 1 * (l.val / 1024 - 0) = _; omega
  have hN : pt6Of (ix2 r l) < cfg0.N := by rw [hp]; exact lt_of_lt_of_eq (by omega) N_0.symm
  have hl : loc6Of (ix2 r l) = ix2 (⟨r.val % 1024, by omega⟩ : Fin 1024) l := by
    funext a
    apply Fin.ext
    match a with
    | ⟨0, _⟩ => rfl
    | ⟨1, _⟩ => show l.val % 1024 = l.val; omega
  unfold G6
  rw [dif_pos hN, ← outsAt0_sweep m c _ hN, hl]
  refine (outs_done m c ⟨_, hN⟩ _ l).trans ?_
  refine congrArg (fun q => (A m c).sum q l) (Fin.ext ?_)
  show 1024 * pt6Of (ix2 r l) + r.val % 1024 = r.val
  rw [hp]; omega

end Cert.FfnFirstIdeal.Value

end
-- ==== Proof.FfnFirstRef.lean ====
/-
  The first layer's reference, element by element. Its lines are the last layer's without the closing norm, on layer 0's
  slices of the weights, so its arrays are the last layer's of the weights with the two layers exchanged.
-/
module

public import proofs.«01_k».proof.Proof.FfnRef
public import proofs.«01_k».proof.Proof.Gen.FfnFirstRefIdeal.Read

@[expose] public section

set_option maxRecDepth 16384

noncomputable section

namespace Cert.FfnMath

open Cert.FfnFirstRefIdeal Cert.FfnFirstRefIdeal.Read Idealize.ShloMosaic

/-- The weights with the two layers exchanged. -/
def other {a b : ℕ} (w : Vec Ideal (⟨3, ![2, a, b]⟩ : Shape) .f32) : Vec Ideal (⟨3, ![2, a, b]⟩ : Shape) .f32 :=
  fun i => w (ix3 (⟨1 - (i 0).val, by omega⟩ : Fin 2) (i 1) (i 2))

variable (x0 : Vec Ideal S16384x1024 .f32) (x1 : Vec Ideal S1024 .f32) (x2 : Vec Ideal S2x1024x5632 .f32)
  (x3 : Vec Ideal S2x3x5632 .f32) (x4 : Vec Ideal S2x2816x1024 .f32) (x5 : Vec Ideal S1024 .f32)

theorem args_other : args 1 x0 x1 (other x2) (other x3) (other x4) x5 = args 0 x0 x1 x2 x3 x4 x5 := rfl

/-- The first layer's slice of the up-projection. -/
theorem first_up : val_main_v14 (F := Ideal) x2 = FfnRefIdeal.Read.val_main_v14 (F := Ideal) (other x2) := by
  funext i
  rw [eq_ix3 i]
  pointwise [val_main_v14, FfnRefIdeal.Read.val_main_v14, other]

/-- … of the convolution's weights. -/
theorem first_conv : val_main_v17 (F := Ideal) x3 = FfnRefIdeal.Read.val_main_v17 (F := Ideal) (other x3) := by
  funext i
  rw [eq_ix3 i]
  pointwise [val_main_v17, FfnRefIdeal.Read.val_main_v17, other]

/-- … and of the down-projection. -/
theorem first_down : val_main_v46 (F := Ideal) x4 = FfnRefIdeal.Read.val_main_v46 (F := Ideal) (other x4) := by
  funext i
  rw [eq_ix3 i]
  pointwise [val_main_v46, FfnRefIdeal.Read.val_main_v46, other]

/-- The rows plus their feed-forward. -/
theorem first_sum : val_main_v49 (F := Ideal) x0 x1 x2 x3 x4
    = FfnRefIdeal.Read.val_main_v49 (F := Ideal) x0 x1 (other x2) (other x3) (other x4) := by
  have h15 : val_main_v15 (F := Ideal) x2 = FfnRefIdeal.Read.val_main_v15 (F := Ideal) (other x2) := by
    unfold val_main_v15; rw [first_up]; rfl
  have h18 : val_main_v18 (F := Ideal) x3 = FfnRefIdeal.Read.val_main_v18 (F := Ideal) (other x3) := by
    unfold val_main_v18; rw [first_conv]; rfl
  have h47 : val_main_v47 (F := Ideal) x4 = FfnRefIdeal.Read.val_main_v47 (F := Ideal) (other x4) := by
    unfold val_main_v47; rw [first_down]; rfl
  have h16 : val_main_v16 (F := Ideal) x0 x1 x2 = FfnRefIdeal.Read.val_main_v16 (F := Ideal) x0 x1 (other x2) := by
    unfold val_main_v16; rw [h15]; rfl
  have h20 : val_main_v20 (F := Ideal) x0 x1 x2 = FfnRefIdeal.Read.val_main_v20 (F := Ideal) x0 x1 (other x2) := by
    unfold val_main_v20; rw [h16]; rfl
  have h21 : val_main_v21 (F := Ideal) x0 x1 x2 = FfnRefIdeal.Read.val_main_v21 (F := Ideal) x0 x1 (other x2) := by
    unfold val_main_v21; rw [h20]; rfl
  have h23 : val_main_v23 (F := Ideal) x0 x1 x2 = FfnRefIdeal.Read.val_main_v23 (F := Ideal) x0 x1 (other x2) := by
    unfold val_main_v23; rw [h16]; rfl
  have h24 : val_main_v24 (F := Ideal) x0 x1 x2 = FfnRefIdeal.Read.val_main_v24 (F := Ideal) x0 x1 (other x2) := by
    unfold val_main_v24; rw [h23]; rfl
  have h41 : val_main_v41 (F := Ideal) x0 x1 x2 x3
      = FfnRefIdeal.Read.val_main_v41 (F := Ideal) x0 x1 (other x2) (other x3) := by
    simp only [val_main_v41, val_main_v40, val_main_v39, val_main_v38, val_main_v37, val_main_v36, val_main_v35,
      val_main_v34, val_main_v33, val_main_v32, val_main_v31, val_main_v30, val_main_v29, val_main_v28, val_main_v27,
      val_main_v26, val_main_v25, h18, h16, h21, h24]
    rfl
  have h45 : val_main_v45 (F := Ideal) x0 x1 x2 x3
      = FfnRefIdeal.Read.val_main_v45 (F := Ideal) x0 x1 (other x2) (other x3) := by
    simp only [val_main_v45, val_main_v44, val_main_call0_v5, val_main_call0_v3, val_main_call0_v1, val_main_call0_v0,
      val_main_v43, val_main_v42, h41]
    rfl
  simp only [val_main_v49, val_main_v48, h45, h47]
  rfl

/-- The reference's array is the first layer's sum of its arguments. -/
theorem first_result (r : Fin 16384) (l : Fin 1024) :
    val_main_v50 (F := Ideal) x0 x1 x2 x3 x4 (ix2 r l) = (args 0 x0 x1 x2 x3 x4 x5).sum r l := by
  pointwise [val_main_v50]
  rw [first_sum]
  refine (ref_sum x0 x1 (other x2) (other x3) (other x4) x5 _ _ l).trans ?_
  rw [args_other]
  exact congrArg (fun q => (args 0 x0 x1 x2 x3 x4 x5).sum q l)
    (Fin.ext (by show r.val / 4096 * 4096 + r.val % 4096 = r.val; omega))

end Cert.FfnMath

end
-- ==== Proof.FfnFirst.lean ====
/-
  The first layer's feed-forward call computes reference.py's: norm, up-projection, causal convolution, gate,
  down-projection and the residual, on layer 0's slices of the weights.

  Both arrays are `Args.sum` of the same arguments: the kernel's by `FfnFirstIdeal.Value.result_apply`, the reference's by
  `FfnMath.first_result`.
-/
module

public import proofs.«01_k».proof.Defs
public import proofs.«01_k».proof.Proof.FfnFirstKernel
public import proofs.«01_k».proof.Proof.FfnFirstRef
public import proofs.«01_k».proof.Proof.Gen.FfnFirstRefIdeal.Run

@[expose] public section

set_option maxRecDepth 16384

noncomputable section

namespace Cert.FfnMath

open Idealize.ShloMosaic Idealize.ShloMosaic.TcCoe Idealize.SL.Sem

/-- From memories that agree on the arguments, the kernel and the reference end with the same array. -/
theorem first_algebraic : Cert.algebraic_FfnFirstIdeal_FfnFirstRefIdeal := by
  intro m ρ m' ρ' _ hagree
  refine ⟨fun c => FfnFirstIdeal.Value.G6 m c, FfnFirstIdeal.Value.run (F := Ideal) m ρ, ?_⟩
  refine (θ_run FfnFirstRefIdeal.defs _ _).mono (fun r h c => ⟨(h c).1.trans ?_, (h c).2⟩) (FfnFirstRefIdeal.Value.run (F := Ideal) m' ρ')
  obtain ⟨h0, h1, h2, h3, h4, -⟩ := hagree c
  rw [FfnFirstRefIdeal.Read.val_main_v50_eq]
  show FfnFirstRefIdeal.Read.val_main_v50 (F := Ideal)
      (m' ((c : Thread FfnFirstRefIdeal.nD FfnFirstRefIdeal.τ).loc FfnFirstRefIdeal.main_arg0))
      (m' ((c : Thread FfnFirstRefIdeal.nD FfnFirstRefIdeal.τ).loc FfnFirstRefIdeal.main_arg1))
      (m' ((c : Thread FfnFirstRefIdeal.nD FfnFirstRefIdeal.τ).loc FfnFirstRefIdeal.main_arg2))
      (m' ((c : Thread FfnFirstRefIdeal.nD FfnFirstRefIdeal.τ).loc FfnFirstRefIdeal.main_arg3))
      (m' ((c : Thread FfnFirstRefIdeal.nD FfnFirstRefIdeal.τ).loc FfnFirstRefIdeal.main_arg4)) = _
  rw [h0, h1, h2, h3, h4]
  funext j
  rw [eq_ix2 j]
  exact (first_result _ _ _ _ _ (m ((c : Thread FfnFirstIdeal.nD FfnFirstIdeal.τ).loc FfnFirstIdeal.main_arg5)) _ _).trans (FfnFirstIdeal.Value.result_apply m c _ _).symm

end Cert.FfnMath

end
-- ==== Proof.MergeMath.lean ====
/-
  The merge of a layer's mixers, as sums of extended reals: the gated short convolution, the three attention branches
  under their heads' gates, the gated sum of the projected mixers and its projection, added to the rows.
-/
module

public import proofs.«01_k».proof.Proof.Gen.MergeIdeal.Value
public import Idealize.ShloMosaic.Lib.Pointwise

@[expose] public section

noncomputable section

namespace Cert.MergeMath

open Idealize.ShloMosaic

/-- The logistic function. -/
def logistic (a : EReal) : EReal := Ideal.div (Ideal.ofBits .f32 0x3F800000#32) (Ideal.ofBits .f32 0x3F800000#32 + Ideal.exp (-a))

/-- The arguments of the call: the rows, the mixers' outputs and the layer's weights. -/
structure Args where
  /-- the rows, 4096 of each of four sequences -/
  x : Fin 16384 → Fin 1024 → EReal
  /-- the projected rows -/
  z : Fin 16384 → Fin 12800 → EReal
  /-- the retention's output -/
  yr : Fin 16384 → Fin 1024 → EReal
  /-- the three attention branches' outputs -/
  o : Fin 3 → Fin 16384 → Fin 1024 → EReal
  /-- the convolution's weights, the oldest row's first -/
  cw : Fin 3 → Fin 1024 → EReal
  /-- the mixers' projections: retention, short convolution, attention -/
  w : Fin 3 → Fin 1024 → Fin 1024 → EReal
  /-- the projection of their sum -/
  wm : Fin 1024 → Fin 1024 → EReal

namespace Args

variable (A : Args)

/-- What the convolution reads. -/
def u (r : Fin 16384) (c : Fin 1024) : EReal := A.z r ⟨4096 + c.val, by omega⟩ * A.z r ⟨5120 + c.val, by omega⟩

/-- … `d` rows before, zero before the sequence's start. -/
def back (d : ℕ) (r : Fin 16384) (c : Fin 1024) : EReal :=
  if r.val % 4096 < d then 0 else A.u ⟨r.val - d, by omega⟩ c

/-- The short convolution's output. -/
def ysc (r : Fin 16384) (c : Fin 1024) : EReal :=
  A.z r ⟨3072 + c.val, by omega⟩ * (A.cw 0 c * A.back 2 r c + A.cw 1 c * A.back 1 r c + A.cw 2 c * A.u r c)

/-- The gate of branch `b` for the head of column `c`. -/
def gate (b : Fin 3) (r : Fin 16384) (c : Fin 1024) : EReal := logistic (A.z r ⟨12288 + (16 * b.val + c.val / 64), by omega⟩)

/-- The gated sum of the attention branches. -/
def ynsa (r : Fin 16384) (c : Fin 1024) : EReal :=
  A.gate 0 r c * A.o 0 r c + A.gate 1 r c * A.o 1 r c + A.gate 2 r c * A.o 2 r c

/-- The gated sum of the projected mixers. -/
def merged (r : Fin 16384) (c : Fin 1024) : EReal :=
  logistic (A.z r ⟨7168 + c.val, by omega⟩) * (∑ k : Fin 1024, A.yr r k * A.w 0 k c)
    + logistic (A.z r ⟨8192 + c.val, by omega⟩) * (∑ k : Fin 1024, A.ysc r k * A.w 1 k c)
    + logistic (A.z r ⟨9216 + c.val, by omega⟩) * (∑ k : Fin 1024, A.ynsa r k * A.w 2 k c)

/-- The rows plus the merge. -/
def out (r : Fin 16384) (l : Fin 1024) : EReal := A.x r l + ∑ k : Fin 1024, A.merged r k * A.wm k l

end Args

/-- The arguments, of layer `n`, read off the arrays. -/
def args (n : Fin 2) (x : Vec Ideal MergeIdeal.S16384x1024 .f32) (z : Vec Ideal MergeIdeal.S16384x12800 .bf16)
    (yr o0 o1 o2 : Vec Ideal MergeIdeal.S16384x1024 .bf16) (cw : Vec Ideal MergeIdeal.S2x3x1024 .f32)
    (w0 w1 w2 wm : Vec Ideal MergeIdeal.S2x1024x1024 .f32) : Args where
  x r k := x (ix2 r k)
  z r k := z (ix2 r k)
  yr r k := yr (ix2 r k)
  o b r k := (![o0, o1, o2] b : Vec Ideal MergeIdeal.S16384x1024 .bf16) (ix2 r k)
  cw q c := cw (ix3 n q c)
  w b k c := (![w0, w1, w2] b : Vec Ideal MergeIdeal.S2x1024x1024 .f32) (ix3 n k c)
  wm k c := wm (ix3 n k c)

end Cert.MergeMath

end
-- ==== Proof.MergeBlock.lean ====
/-
  What one grid point of the merge kernel writes, element by element, from blocks that hold its rows and weights.

  A point takes 512 rows, eight points to a sequence. The convolution's first two rows need the last two rows before the
  point's: the kernel reads the eight rows before in two further windows, and takes zero at a sequence's start. The heads'
  gates are spread over their 64 columns by a product with a table of zeros and ones (`spread`).
-/
module

public import proofs.«01_k».proof.Proof.MergeMath

@[expose] public section

set_option maxRecDepth 65536
set_option maxHeartbeats 1000000

noncomputable section

namespace Cert.MergeIdeal.Value

open Cert.MergeIdeal Cert.MergeIdeal.Gen Cert.MergeMath Idealize.ShloMosaic Idealize.ShloMosaic.TcCoe Idealize.SL.Sem

/-- Whether a row of the first eight is row `n`. -/
def isRow (n : BitVec 32) : IVec S8x1024 1 :=
  cmpi .eq (iota .tc S8x1024 32 [0] iota_S8x1024_d0_w32) (broadcast S8x1024 n)

/-- Row 6 of the eight before, eight times. -/
def row6 (p : FVec Ideal S8x1024 .f32) : FVec Ideal S8x1024 .f32 :=
  broadcastTo S8x1024 (shapeCast S1x1024 (extractStridedSlice S1x1024 ![6, 0] p slices_S8x1024_o6_0_S1x1024)
    shapeCasts_S1x1024_S1x1024) broadcasts_S1x1024_S8x1024

/-- Row 7 of the eight before, eight times. -/
def row7 (p : FVec Ideal S8x1024 .f32) : FVec Ideal S8x1024 .f32 :=
  broadcastTo S8x1024 (shapeCast S1x1024 (extractStridedSlice S1x1024 ![7, 0] p slices_S8x1024_o7_0_S1x1024)
    shapeCasts_S1x1024_S1x1024) broadcasts_S1x1024_S8x1024

/-- The rows one down, the first one from the rows before. -/
def shift1 (u : FVec Ideal S512x1024 .f32) (p : FVec Ideal S8x1024 .f32) : FVec Ideal S512x1024 .f32 :=
  concatenate S512x1024 0
    [⟨S8x1024, select (isRow 0#32) (row7 p)
        (extractStridedSlice S8x1024 ![0, 0] (dynamicRotate 0 1#32 none u rotates_S512x1024_d0) slices_S512x1024_o0_0_S8x1024)⟩,
     ⟨S504x1024, extractStridedSlice S504x1024 ![8, 0] (dynamicRotate 0 1#32 none u rotates_S512x1024_d0)
        slices_S512x1024_o8_0_S504x1024⟩] concatenates_S8x1024_S504x1024_S512x1024_d0

/-- The rows two down, the first two from the rows before. -/
def shift2 (u : FVec Ideal S512x1024 .f32) (p : FVec Ideal S8x1024 .f32) : FVec Ideal S512x1024 .f32 :=
  concatenate S512x1024 0
    [⟨S8x1024, select (isRow 1#32) (row7 p) (select (isRow 0#32) (row6 p)
        (extractStridedSlice S8x1024 ![0, 0] (dynamicRotate 0 2#32 none u rotates_S512x1024_d0) slices_S512x1024_o0_0_S8x1024))⟩,
     ⟨S504x1024, extractStridedSlice S504x1024 ![8, 0] (dynamicRotate 0 2#32 none u rotates_S512x1024_d0)
        slices_S512x1024_o8_0_S504x1024⟩] concatenates_S8x1024_S504x1024_S512x1024_d0

/-- The convolution's weights of one row back. -/
def tap (o : Fin 2 → ℕ) (h : S3x1024.Slices o S1x1024) (w : Vec Ideal S3x1024 .f32) : FVec Ideal S512x1024 .f32 :=
  broadcastTo S512x1024 (extractStridedSlice S1x1024 o (shapeCast S3x1024 w shapeCasts_S3x1024_S3x1024) h) broadcasts_S1x1024_S512x1024

section Block
variable (i : grid0.Coords) (x0 : Vec Ideal S512x1024 .f32) (x1 x2 x3 x4 : Vec Ideal S512x1024 .bf16)
  (x5 x6 : Vec Ideal S8x1024 .bf16) (x7 x8 x9 : Vec Ideal S512x1024 .bf16) (x10 : Vec Ideal S512x128 .bf16)
  (x11 x12 x13 : Vec Ideal S512x1024 .bf16) (x14 : Vec Ideal S3x1024 .f32) (x15 : Vec Ideal S128x3072 .bf16)
  (x16 x17 x18 x19 : Vec Ideal S1x1024x1024 .bf16)

/-- The short convolution's output. -/
def scBlock : FVec Ideal S512x1024 .bf16 :=
  k0_pay9 (k0_pay2 x3 x4) (k0_pay3 i x5 x6) (k0_pay4 x2) (k0_pay5 x14) (k0_pay6 x14) (k0_pay7 x3 x4)
    (iota .tc S8x1024 32 [0] iota_S8x1024_d0_w32) (k0_pay8 i x3 x4 x5 x6)

/-- The attention branches' gated sum. -/
def nsaBlock : FVec Ideal S512x1024 .bf16 :=
  k0_pay13 (k0_pay10 x10 x15) (k0_pay11 x10 x15) (k0_pay12 x11) x12 x13

/-- The block the point writes. -/
def blockOut : FVec Ideal S512x1024 .f32 :=
  k0_pay1 (scBlock i x2 x3 x4 x5 x6 x14) (nsaBlock x10 x11 x12 x13 x15) (k0_pay14 x7 x1 x16) (k0_pay15 x8) (k0_pay16 x17)
    x9 x18 x0 x19

theorem scBlock_eq : scBlock i x2 x3 x4 x5 x6 x14 = truncf .bf16 (mulf (k0_pay4 x2) (addf (addf
    (mulf (tap ![0, 0] slices_S3x1024_o0_0_S1x1024 x14) (shift2 (k0_pay2 x3 x4) (k0_pay3 i x5 x6)))
    (mulf (tap ![1, 0] slices_S3x1024_o1_0_S1x1024 x14) (shift1 (k0_pay2 x3 x4) (k0_pay3 i x5 x6))))
    (mulf (tap ![2, 0] slices_S3x1024_o2_0_S1x1024 x14) (k0_pay2 x3 x4)))) bitsLt_bf16_f32 := rfl

end Block

theorem sel {α : Type} (n h : ℕ) (hn : n < 2) (hh : h < 8) (a b : α) :
    Scalar.select (IntOp.cmpi .eq (BitVec.ofNat 32 h) (BitVec.ofNat 32 n)) a b = if h = n then a else b := by
  interval_cases n <;> interval_cases h <;> rfl

theorem shift1_apply (u : FVec Ideal S512x1024 .f32) (p : FVec Ideal S8x1024 .f32) (r : Fin 512) (e : Fin 1024) :
    shift1 u p (ix2 r e) = if r.val < 1 then p (ix2 7 e) else u (ix2 (⟨r.val - 1, by omega⟩ : Fin 512) e) := by
  pointwise [shift1, isRow, row7]
  by_cases h8 : r.val < 8
  · rw [dif_pos h8, sel 0 _ (by decide) h8]
    by_cases h0 : r.val = 0
    · rw [if_pos h0, if_pos (by omega)]
    · rw [if_neg h0]
      exact (congrArg (fun q => u (ix2 q e)) (Fin.ext (by dsimp only; omega))).trans (if_neg (by omega)).symm
  · rw [dif_neg h8]
    exact (congrArg (fun q => u (ix2 q e)) (Fin.ext (by dsimp only; omega))).trans (if_neg (by omega)).symm

theorem shift2_apply (u : FVec Ideal S512x1024 .f32) (p : FVec Ideal S8x1024 .f32) (r : Fin 512) (e : Fin 1024) :
    shift2 u p (ix2 r e) = if h : r.val < 2 then p (ix2 (⟨6 + r.val, by omega⟩ : Fin 8) e)
      else u (ix2 (⟨r.val - 2, by omega⟩ : Fin 512) e) := by
  pointwise [shift2, isRow, row7, row6]
  by_cases h8 : r.val < 8
  · rw [dif_pos h8, sel 1 _ (by decide) h8, sel 0 _ (by decide) h8]
    by_cases h1 : r.val = 1
    · rw [if_pos h1, dif_pos (by omega)]
      exact congrArg (fun q => p (ix2 q e)) (Fin.ext (show 7 = 6 + r.val by omega))
    · rw [if_neg h1]
      by_cases h0 : r.val = 0
      · rw [if_pos h0, dif_pos (by omega)]
        exact congrArg (fun q => p (ix2 q e)) (Fin.ext (show 6 = 6 + r.val by omega))
      · rw [if_neg h0]
        refine Eq.trans ?_ (dif_neg (show ¬r.val < 2 by omega)).symm
        exact congrArg (fun q => u (ix2 q e)) (Fin.ext (by dsimp only; omega))
  · rw [dif_neg h8]
    refine Eq.trans ?_ (dif_neg (show ¬r.val < 2 by omega)).symm
    exact congrArg (fun q => u (ix2 q e)) (Fin.ext (by dsimp only; omega))

/-- Selecting zero at a sequence's first point. -/
theorem first_sel {α : Type} (n : Fin 32) (a b : α) :
    Scalar.select (Scalar.cmpi .eq (Scalar.select (Scalar.andi (Scalar.xori
        (Scalar.cmpi .slt (Scalar.remsi (BitVec.ofNat 32 n.val) (Scalar.select (Scalar.cmpi .eq 8#32 0#32) 1#32 8#32)) 0#32)
        (Scalar.cmpi .slt (Scalar.select (Scalar.cmpi .eq 8#32 0#32) 1#32 8#32) 0#32))
        (Scalar.cmpi .ne (Scalar.remsi (BitVec.ofNat 32 n.val) (Scalar.select (Scalar.cmpi .eq 8#32 0#32) 1#32 8#32)) 0#32))
        (Scalar.addi (Scalar.remsi (BitVec.ofNat 32 n.val) (Scalar.select (Scalar.cmpi .eq 8#32 0#32) 1#32 8#32))
          (Scalar.select (Scalar.cmpi .eq 8#32 0#32) 1#32 8#32))
        (Scalar.remsi (BitVec.ofNat 32 n.val) (Scalar.select (Scalar.cmpi .eq 8#32 0#32) 1#32 8#32))) 0#32) a b
      = if n.val % 8 = 0 then a else b := by
  fin_cases n <;> rfl

/-- The rows before a point's. -/
theorem before_apply (i : grid0.Coords) (x5 x6 : Vec Ideal S8x1024 .bf16) (q : Fin 8) (e : Fin 1024) :
    k0_pay3 i x5 x6 (ix2 q e) = if (i 0).val % 8 = 0 then 0 else x5 (ix2 q e) * x6 (ix2 q e) := by
  unfold k0_pay3
  dsimp only
  refine (congrFun (first_sel (i 0) _ _) (ix2 q e)).trans ?_
  by_cases h : (i 0).val % 8 = 0
  · rw [if_pos h, if_pos h]; pointwise
  · rw [if_neg h, if_neg h]; pointwise

theorem u_apply (x3 x4 : Vec Ideal S512x1024 .bf16) (r : Fin 512) (e : Fin 1024) :
    k0_pay2 x3 x4 (ix2 r e) = x3 (ix2 r e) * x4 (ix2 r e) := by
  pointwise [k0_pay2]

theorem sc_apply (i : grid0.Coords) (x2 x3 x4 : Vec Ideal S512x1024 .bf16) (x5 x6 : Vec Ideal S8x1024 .bf16)
    (x14 : Vec Ideal S3x1024 .f32) (r : Fin 512) (e : Fin 1024) :
    scBlock i x2 x3 x4 x5 x6 x14 (ix2 r e) = x2 (ix2 r e) * (x14 (ix2 0 e) * shift2 (k0_pay2 x3 x4) (k0_pay3 i x5 x6) (ix2 r e)
      + x14 (ix2 1 e) * shift1 (k0_pay2 x3 x4) (k0_pay3 i x5 x6) (ix2 r e) + x14 (ix2 2 e) * k0_pay2 x3 x4 (ix2 r e)) := by
  rw [scBlock_eq]
  pointwise [tap, k0_pay4]

theorem nsa_apply (x10 : Vec Ideal S512x128 .bf16) (x11 x12 x13 : Vec Ideal S512x1024 .bf16) (x15 : Vec Ideal S128x3072 .bf16)
    (r : Fin 512) (e : Fin 1024) :
    nsaBlock x10 x11 x12 x13 x15 (ix2 r e)
      = (∑ k : Fin 128, logistic (x10 (ix2 r k)) * x15 (ix2 k (⟨e.val, by omega⟩ : Fin 3072))) * x11 (ix2 r e)
        + (∑ k : Fin 128, logistic (x10 (ix2 r k)) * x15 (ix2 k (⟨1024 + e.val, by omega⟩ : Fin 3072))) * x12 (ix2 r e)
        + (∑ k : Fin 128, logistic (x10 (ix2 r k)) * x15 (ix2 k (⟨2048 + e.val, by omega⟩ : Fin 3072))) * x13 (ix2 r e) := by
  unfold MergeMath.logistic
  pointwise [nsaBlock, k0_pay13, k0_pay10, k0_pay11, k0_pay12]
  simp only [zero_sub]

theorem block_apply (a b : FVec Ideal S512x1024 .bf16) (x0 : Vec Ideal S512x1024 .f32) (x1 x7 x8 x9 : Vec Ideal S512x1024 .bf16)
    (x16 x17 x18 x19 : Vec Ideal S1x1024x1024 .bf16) (r : Fin 512) (l : Fin 1024) :
    k0_pay1 a b (k0_pay14 x7 x1 x16) (k0_pay15 x8) (k0_pay16 x17) x9 x18 x0 x19 (ix2 r l)
      = x0 (ix2 r l) + ∑ k : Fin 1024, (logistic (x7 (ix2 r k)) * (∑ q : Fin 1024, x1 (ix2 r q) * x16 (ix3 0 q k))
          + logistic (x8 (ix2 r k)) * (∑ q : Fin 1024, a (ix2 r q) * x17 (ix3 0 q k))
          + logistic (x9 (ix2 r k)) * (∑ q : Fin 1024, b (ix2 r q) * x18 (ix3 0 q k))) * x19 (ix3 0 k l) := by
  unfold MergeMath.logistic
  pointwise [k0_pay1, k0_pay14, k0_pay15, k0_pay16]
  simp only [zero_sub]

/-- A sum against a table of zeros and ones picks one term. -/
theorem spread (f : Fin 128 → EReal) (n : ℕ) (hn : n < 128) :
    (∑ k : Fin 128, f k * (if k.val = n then 1 else 0)) = f ⟨n, hn⟩ := by
  rw [Finset.sum_eq_single (⟨n, hn⟩ : Fin 128)]
  · rw [if_pos rfl, mul_one]
  · intro k _ h
    rw [if_neg (fun e => h (Fin.ext e)), mul_zero]
  · exact fun h => absurd (Finset.mem_univ _) h

/-- Row `r` of point `t`. -/
def row (t : Fin 32) (r : Fin 512) : Fin 16384 := ⟨512 * t.val + r.val, by omega⟩

/-- The blocks point `t` reads hold its rows and the weights. -/
structure Blocks (A : Args) (t : Fin 32) (x0 : Vec Ideal S512x1024 .f32) (x1 x2 x3 x4 : Vec Ideal S512x1024 .bf16)
    (x5 x6 : Vec Ideal S8x1024 .bf16) (x7 x8 x9 : Vec Ideal S512x1024 .bf16) (x10 : Vec Ideal S512x128 .bf16)
    (x11 x12 x13 : Vec Ideal S512x1024 .bf16) (x14 : Vec Ideal S3x1024 .f32) (x15 : Vec Ideal S128x3072 .bf16)
    (x16 x17 x18 x19 : Vec Ideal S1x1024x1024 .bf16) : Prop where
  x : ∀ r k, x0 (ix2 r k) = A.x (row t r) k
  yr : ∀ r k, x1 (ix2 r k) = A.yr (row t r) k
  sb : ∀ r (k : Fin 1024), x2 (ix2 r k) = A.z (row t r) ⟨3072 + k.val, by omega⟩
  sc : ∀ r (k : Fin 1024), x3 (ix2 r k) = A.z (row t r) ⟨4096 + k.val, by omega⟩
  sx : ∀ r (k : Fin 1024), x4 (ix2 r k) = A.z (row t r) ⟨5120 + k.val, by omega⟩
  sch : ¬t.val % 8 = 0 → ∀ (q : Fin 8) (k : Fin 1024), x5 (ix2 q k) = A.z ⟨512 * t.val + q.val - 8, by omega⟩ ⟨4096 + k.val, by omega⟩
  sxh : ¬t.val % 8 = 0 → ∀ (q : Fin 8) (k : Fin 1024), x6 (ix2 q k) = A.z ⟨512 * t.val + q.val - 8, by omega⟩ ⟨5120 + k.val, by omega⟩
  mg0 : ∀ r (k : Fin 1024), x7 (ix2 r k) = A.z (row t r) ⟨7168 + k.val, by omega⟩
  mg1 : ∀ r (k : Fin 1024), x8 (ix2 r k) = A.z (row t r) ⟨8192 + k.val, by omega⟩
  mg2 : ∀ r (k : Fin 1024), x9 (ix2 r k) = A.z (row t r) ⟨9216 + k.val, by omega⟩
  ng : ∀ r (k : Fin 128), x10 (ix2 r k) = A.z (row t r) ⟨12288 + k.val, by omega⟩
  o0 : ∀ r k, x11 (ix2 r k) = A.o 0 (row t r) k
  o1 : ∀ r k, x12 (ix2 r k) = A.o 1 (row t r) k
  o2 : ∀ r k, x13 (ix2 r k) = A.o 2 (row t r) k
  cw : ∀ q k, x14 (ix2 q k) = A.cw q k
  e : ∀ (k : Fin 128) (c : Fin 3072), x15 (ix2 k c) = if k.val = c.val / 64 then 1 else 0
  w0 : ∀ q k, x16 (ix3 0 q k) = A.w 0 q k
  w1 : ∀ q k, x17 (ix3 0 q k) = A.w 1 q k
  w2 : ∀ q k, x18 (ix3 0 q k) = A.w 2 q k
  wm : ∀ q k, x19 (ix3 0 q k) = A.wm q k

section Point
variable {A : Args} {t : Fin 32} {i : grid0.Coords} {x0 : Vec Ideal S512x1024 .f32} {x1 x2 x3 x4 : Vec Ideal S512x1024 .bf16}
  {x5 x6 : Vec Ideal S8x1024 .bf16} {x7 x8 x9 : Vec Ideal S512x1024 .bf16} {x10 : Vec Ideal S512x128 .bf16}
  {x11 x12 x13 : Vec Ideal S512x1024 .bf16} {x14 : Vec Ideal S3x1024 .f32} {x15 : Vec Ideal S128x3072 .bf16}
  {x16 x17 x18 x19 : Vec Ideal S1x1024x1024 .bf16}
  (h : Blocks A t x0 x1 x2 x3 x4 x5 x6 x7 x8 x9 x10 x11 x12 x13 x14 x15 x16 x17 x18 x19) (hi : (i 0).val = t.val)
include h

theorem u_done (r : Fin 512) (e : Fin 1024) : k0_pay2 x3 x4 (ix2 r e) = A.u (row t r) e := by
  rw [u_apply, h.sc, h.sx]; rfl

include hi

theorem before_done (q : Fin 8) (e : Fin 1024) :
    k0_pay3 i x5 x6 (ix2 q e) = if t.val % 8 = 0 then 0 else A.u ⟨512 * t.val + q.val - 8, by omega⟩ e := by
  rw [before_apply, hi]
  by_cases h0 : t.val % 8 = 0
  · rw [if_pos h0, if_pos h0]
  · rw [if_neg h0, if_neg h0, h.sch h0, h.sxh h0]; rfl

theorem shift1_done (r : Fin 512) (e : Fin 1024) :
    shift1 (k0_pay2 x3 x4) (k0_pay3 i x5 x6) (ix2 r e) = A.back 1 (row t r) e := by
  rw [shift1_apply]
  have ht := t.isLt
  unfold Args.back
  by_cases hr : r.val < 1
  · rw [if_pos hr, before_done h hi]
    refine if_congr (by show _ ↔ (512 * t.val + r.val) % 4096 < 1; omega) rfl ?_
    exact congrArg (fun q => A.u q _) (Fin.ext (show 512 * t.val + 7 - 8 = 512 * t.val + r.val - 1 by omega))
  · rw [if_neg hr, if_neg (by show ¬(512 * t.val + r.val) % 4096 < 1; omega), u_done h]
    exact congrArg (fun q => A.u q _) (Fin.ext (show 512 * t.val + (r.val - 1) = 512 * t.val + r.val - 1 by omega))

theorem shift2_done (r : Fin 512) (e : Fin 1024) :
    shift2 (k0_pay2 x3 x4) (k0_pay3 i x5 x6) (ix2 r e) = A.back 2 (row t r) e := by
  rw [shift2_apply]
  have ht := t.isLt
  unfold Args.back
  by_cases hr : r.val < 2
  · rw [dif_pos hr, before_done h hi]
    refine if_congr (by show _ ↔ (512 * t.val + r.val) % 4096 < 2; omega) rfl ?_
    exact congrArg (fun q => A.u q _) (Fin.ext (show 512 * t.val + (6 + r.val) - 8 = 512 * t.val + r.val - 2 by omega))
  · rw [dif_neg hr, if_neg (by show ¬(512 * t.val + r.val) % 4096 < 2; omega), u_done h]
    exact congrArg (fun q => A.u q _) (Fin.ext (show 512 * t.val + (r.val - 2) = 512 * t.val + r.val - 2 by omega))

theorem sc_done (r : Fin 512) (e : Fin 1024) : scBlock i x2 x3 x4 x5 x6 x14 (ix2 r e) = A.ysc (row t r) e := by
  rw [sc_apply, shift1_done h hi, shift2_done h hi, u_done h, h.sb, h.cw, h.cw, h.cw]
  rfl

omit hi

theorem gate_done (b : Fin 3) (r : Fin 512) (e : Fin 1024) (c : Fin 3072) (hc : c.val = 1024 * b.val + e.val) :
    (∑ k : Fin 128, logistic (x10 (ix2 r k)) * x15 (ix2 k c)) = A.gate b (row t r) e := by
  simp only [h.e]
  rw [spread _ _ (by omega), h.ng]
  exact congrArg (fun q => logistic (A.z (row t r) q))
    (Fin.ext (show 12288 + c.val / 64 = 12288 + (16 * b.val + e.val / 64) by omega))

theorem nsa_done (r : Fin 512) (e : Fin 1024) : nsaBlock x10 x11 x12 x13 x15 (ix2 r e) = A.ynsa (row t r) e := by
  rw [nsa_apply, gate_done h 0 r e _ (by show e.val = 1024 * 0 + e.val; omega), gate_done h 1 r e _ rfl,
    gate_done h 2 r e _ rfl, h.o0, h.o1, h.o2]
  rfl

include hi

/-- What the point writes: its rows plus their merge. -/
theorem out_done (r : Fin 512) (l : Fin 1024) :
    blockOut i x0 x1 x2 x3 x4 x5 x6 x7 x8 x9 x10 x11 x12 x13 x14 x15 x16 x17 x18 x19 (ix2 r l) = A.out (row t r) l := by
  unfold blockOut
  rw [block_apply]
  simp only [sc_done h hi, nsa_done h, h.x, h.yr, h.mg0, h.mg1, h.mg2, h.w0, h.w1, h.w2, h.wm]
  rfl

end Point

end Cert.MergeIdeal.Value

end
-- ==== Proof.MergeKernel.lean ====
/-
  What the run of the last layer's merge call leaves in its result array, element by element.

  `blocks` says that the windows' blocks hold a point's rows and the last layer's weights; `outs_done` reads what each
  point writes; `result_apply` reads the final array, which the points' blocks tile.
-/
module

public import proofs.«01_k».proof.Proof.MergeBlock

@[expose] public section

set_option maxRecDepth 16384
set_option maxHeartbeats 400000

noncomputable section

namespace Cert.MergeIdeal.Value

open Cert.MergeIdeal Cert.MergeIdeal.Gen Cert.MergeMath Idealize.ShloMosaic Idealize.ShloMosaic.TcCoe Idealize.SL.Sem

variable (m : (ℓ : Loc nD τ sig) → Buf (Elt Ideal) ℓ)

/-- The run's arguments. -/
def A (c : Dev nD) : Args :=
  args 1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- Two indices of a matrix, the first an element of a block, are equal when their coordinates are. -/
theorem idx2 {d : Fin 2 → ℕ} (i j : ∀ a, Fin (d a)) (x : Fin 2 → ℕ) {n0 n1 : ℕ} (b0 b1 k0 k1 : ℕ) (h : x = ![n0, n1])
    (e0 : (i 0).val = x 0 * b0 + 1 * k0) (e1 : (i 1).val = x 1 * b1 + 1 * k1)
    (g0 : n0 * b0 + k0 = (j 0).val) (g1 : n1 * b1 + k1 = (j 1).val) : i = j := by
  subst h
  funext a
  apply Fin.ext
  match a with
  | ⟨0, _⟩ => exact e0.trans (by rw [one_mul]; exact g0)
  | ⟨1, _⟩ => exact e1.trans (by rw [one_mul]; exact g1)

/-- The same of a stack of matrices. -/
theorem idx3 {d : Fin 3 → ℕ} (i j : ∀ a, Fin (d a)) (x : Fin 3 → ℕ) {n0 n1 n2 : ℕ} (b0 b1 b2 k0 k1 k2 : ℕ) (h : x = ![n0, n1, n2])
    (e0 : (i 0).val = x 0 * b0 + 1 * k0) (e1 : (i 1).val = x 1 * b1 + 1 * k1) (e2 : (i 2).val = x 2 * b2 + 1 * k2)
    (g0 : n0 * b0 + k0 = (j 0).val) (g1 : n1 * b1 + k1 = (j 1).val) (g2 : n2 * b2 + k2 = (j 2).val) : i = j := by
  subst h
  funext a
  apply Fin.ext
  match a with
  | ⟨0, _⟩ => exact e0.trans (by rw [one_mul]; exact g0)
  | ⟨1, _⟩ => exact e1.trans (by rw [one_mul]; exact g1)
  | ⟨2, _⟩ => exact e2.trans (by rw [one_mul]; exact g2)

/-- The index maps over the grid. -/
theorem idx_0 : ∀ t : Fin cfg0.N, win0_0.index t = ![t.val, 0] :=
  (by decide +kernel : ∀ t : Fin grid0.N, win0_0.index t = ![t.val, 0])
theorem idx_1 : ∀ t : Fin cfg0.N, win0_1.index t = ![t.val, 0] :=
  (by decide +kernel : ∀ t : Fin grid0.N, win0_1.index t = ![t.val, 0])
theorem idx_2 : ∀ t : Fin cfg0.N, win0_2.index t = ![t.val, 3] :=
  (by decide +kernel : ∀ t : Fin grid0.N, win0_2.index t = ![t.val, 3])
theorem idx_3 : ∀ t : Fin cfg0.N, win0_3.index t = ![t.val, 4] :=
  (by decide +kernel : ∀ t : Fin grid0.N, win0_3.index t = ![t.val, 4])
theorem idx_4 : ∀ t : Fin cfg0.N, win0_4.index t = ![t.val, 5] :=
  (by decide +kernel : ∀ t : Fin grid0.N, win0_4.index t = ![t.val, 5])
theorem idx_5 : ∀ t : Fin cfg0.N, win0_5.index t = ![64 * t.val - 1, 4] :=
  (by decide +kernel : ∀ t : Fin grid0.N, win0_5.index t = ![64 * t.val - 1, 4])
theorem idx_6 : ∀ t : Fin cfg0.N, win0_6.index t = ![64 * t.val - 1, 5] :=
  (by decide +kernel : ∀ t : Fin grid0.N, win0_6.index t = ![64 * t.val - 1, 5])
theorem idx_7 : ∀ t : Fin cfg0.N, win0_7.index t = ![t.val, 7] :=
  (by decide +kernel : ∀ t : Fin grid0.N, win0_7.index t = ![t.val, 7])
theorem idx_8 : ∀ t : Fin cfg0.N, win0_8.index t = ![t.val, 8] :=
  (by decide +kernel : ∀ t : Fin grid0.N, win0_8.index t = ![t.val, 8])
theorem idx_9 : ∀ t : Fin cfg0.N, win0_9.index t = ![t.val, 9] :=
  (by decide +kernel : ∀ t : Fin grid0.N, win0_9.index t = ![t.val, 9])
theorem idx_10 : ∀ t : Fin cfg0.N, win0_10.index t = ![t.val, 96] :=
  (by decide +kernel : ∀ t : Fin grid0.N, win0_10.index t = ![t.val, 96])
theorem idx_11 : ∀ t : Fin cfg0.N, win0_11.index t = ![t.val, 0] :=
  (by decide +kernel : ∀ t : Fin grid0.N, win0_11.index t = ![t.val, 0])
theorem idx_12 : ∀ t : Fin cfg0.N, win0_12.index t = ![t.val, 0] :=
  (by decide +kernel : ∀ t : Fin grid0.N, win0_12.index t = ![t.val, 0])
theorem idx_13 : ∀ t : Fin cfg0.N, win0_13.index t = ![t.val, 0] :=
  (by decide +kernel : ∀ t : Fin grid0.N, win0_13.index t = ![t.val, 0])
theorem idx_14 : ∀ t : Fin cfg0.N, win0_14.index t = ![0, 0] :=
  (by decide +kernel : ∀ t : Fin grid0.N, win0_14.index t = ![0, 0])
theorem idx_15 : ∀ t : Fin cfg0.N, win0_15.index t = ![0, 0] :=
  (by decide +kernel : ∀ t : Fin grid0.N, win0_15.index t = ![0, 0])
theorem idx_16 : ∀ t : Fin cfg0.N, win0_16.index t = ![1, 0, 0] :=
  (by decide +kernel : ∀ t : Fin grid0.N, win0_16.index t = ![1, 0, 0])
theorem idx_17 : ∀ t : Fin cfg0.N, win0_17.index t = ![1, 0, 0] :=
  (by decide +kernel : ∀ t : Fin grid0.N, win0_17.index t = ![1, 0, 0])
theorem idx_18 : ∀ t : Fin cfg0.N, win0_18.index t = ![1, 0, 0] :=
  (by decide +kernel : ∀ t : Fin grid0.N, win0_18.index t = ![1, 0, 0])
theorem idx_19 : ∀ t : Fin cfg0.N, win0_19.index t = ![1, 0, 0] :=
  (by decide +kernel : ∀ t : Fin grid0.N, win0_19.index t = ![1, 0, 0])
theorem idx_20 : ∀ t : Fin cfg0.N, win0_20.index t = ![t.val, 0] :=
  (by decide +kernel : ∀ t : Fin grid0.N, win0_20.index t = ![t.val, 0])

/-- The grid's one coordinate is the point. -/
theorem coord : ∀ t : Fin cfg0.N, ((grid0.coords t) 0).val = t.val :=
  (by decide +kernel : ∀ t : Fin grid0.N, ((grid0.coords t) 0).val = t.val)

theorem lt32 (t : Fin cfg0.N) : t.val < 32 := lt_of_lt_of_eq t.isLt N_0

/-- A point's rows. -/
theorem iblk0_apply (c : Dev nD) (t : Fin cfg0.N) (r : Fin 512) (k : Fin 1024) :
    (iblk m c 0 t : Vec Ideal S512x1024 .f32) (ix2 r k) = (A m c).x (row (t.cast N_0) r) k := by
  unfold iblk
  rw [View.read_apply]
  show V m c main_arg0 _ = _
  rw [V_main_arg0]
  exact congrArg (m ((c : Thread nD τ).loc main_arg0)) (idx2 _ (ix2 (row (t.cast N_0) r) k) (win0_0.index t) 512 1024 r k (idx_0 t) rfl rfl
    (congrArg (· + r.val) (Nat.mul_comm _ _)) (by show 0 * 1024 + k.val = k.val; omega))

/-- The retention's output at a point's rows. -/
theorem iblk1_apply (c : Dev nD) (t : Fin cfg0.N) (r : Fin 512) (k : Fin 1024) :
    (iblk m c 1 t : Vec Ideal S512x1024 .bf16) (ix2 r k) = (A m c).yr (row (t.cast N_0) r) k := by
  unfold iblk
  rw [View.read_apply]
  show V m c main_arg2 _ = _
  rw [V_main_arg2]
  exact congrArg (m ((c : Thread nD τ).loc main_arg2)) (idx2 _ (ix2 (row (t.cast N_0) r) k) (win0_1.index t) 512 1024 r k (idx_1 t) rfl rfl
    (congrArg (· + r.val) (Nat.mul_comm _ _)) (by show 0 * 1024 + k.val = k.val; omega))

/-- An attention branch's output at a point's rows. -/
theorem iblk11_apply (c : Dev nD) (t : Fin cfg0.N) (r : Fin 512) (k : Fin 1024) :
    (iblk m c 11 t : Vec Ideal S512x1024 .bf16) (ix2 r k) = (A m c).o 0 (row (t.cast N_0) r) k := by
  unfold iblk
  rw [View.read_apply]
  show V m c main_arg3 _ = _
  rw [V_main_arg3]
  exact congrArg (m ((c : Thread nD τ).loc main_arg3)) (idx2 _ (ix2 (row (t.cast N_0) r) k) (win0_11.index t) 512 1024 r k (idx_11 t) rfl rfl
    (congrArg (· + r.val) (Nat.mul_comm _ _)) (by show 0 * 1024 + k.val = k.val; omega))

/-- An attention branch's output at a point's rows. -/
theorem iblk12_apply (c : Dev nD) (t : Fin cfg0.N) (r : Fin 512) (k : Fin 1024) :
    (iblk m c 12 t : Vec Ideal S512x1024 .bf16) (ix2 r k) = (A m c).o 1 (row (t.cast N_0) r) k := by
  unfold iblk
  rw [View.read_apply]
  show V m c main_arg4 _ = _
  rw [V_main_arg4]
  exact congrArg (m ((c : Thread nD τ).loc main_arg4)) (idx2 _ (ix2 (row (t.cast N_0) r) k) (win0_12.index t) 512 1024 r k (idx_12 t) rfl rfl
    (congrArg (· + r.val) (Nat.mul_comm _ _)) (by show 0 * 1024 + k.val = k.val; omega))

/-- An attention branch's output at a point's rows. -/
theorem iblk13_apply (c : Dev nD) (t : Fin cfg0.N) (r : Fin 512) (k : Fin 1024) :
    (iblk m c 13 t : Vec Ideal S512x1024 .bf16) (ix2 r k) = (A m c).o 2 (row (t.cast N_0) r) k := by
  unfold iblk
  rw [View.read_apply]
  show V m c main_arg5 _ = _
  rw [V_main_arg5]
  exact congrArg (m ((c : Thread nD τ).loc main_arg5)) (idx2 _ (ix2 (row (t.cast N_0) r) k) (win0_13.index t) 512 1024 r k (idx_13 t) rfl rfl
    (congrArg (· + r.val) (Nat.mul_comm _ _)) (by show 0 * 1024 + k.val = k.val; omega))

/-- An element of the projected rows, from where a block of them lies. -/
theorem z_apply (c : Dev nD) (i : ∀ a, Fin (S16384x12800.size a)) (x : Fin 2 → ℕ) {n0 n1 : ℕ} (b0 b1 k0 k1 : ℕ) (h : x = ![n0, n1])
    (e0 : (i 0).val = x 0 * b0 + 1 * k0) (e1 : (i 1).val = x 1 * b1 + 1 * k1) (r : Fin 16384) (k : Fin 12800)
    (g0 : n0 * b0 + k0 = r.val) (g1 : n1 * b1 + k1 = k.val) : V m c main_arg1 i = (A m c).z r k := by
  rw [V_main_arg1]
  exact congrArg (m ((c : Thread nD τ).loc main_arg1)) (idx2 i (ix2 r k) x b0 b1 k0 k1 h e0 e1 g0 g1)

/-- The convolution's gate. -/
theorem X2_apply (c : Dev nD) (t : Fin cfg0.N) (r : Fin 512) (k : Fin 1024) :
    (X0_2 m c t : Vec Ideal S512x1024 .bf16) (ix2 r k) = (A m c).z (row (t.cast N_0) r) ⟨3072 + k.val, by omega⟩ := by
  unfold X0_2 Pipeline.Window.fill
  rw [dif_pos (moved0_2 t _)]
  unfold iblk
  rw [View.read_apply]
  exact z_apply m c _ (win0_2.index t) 512 1024 r k (idx_2 t) rfl rfl _ _ (congrArg (· + r.val) (Nat.mul_comm _ _)) rfl

/-- The convolution's first factor. -/
theorem X3_apply (c : Dev nD) (t : Fin cfg0.N) (r : Fin 512) (k : Fin 1024) :
    (X0_3 m c t : Vec Ideal S512x1024 .bf16) (ix2 r k) = (A m c).z (row (t.cast N_0) r) ⟨4096 + k.val, by omega⟩ := by
  unfold X0_3 Pipeline.Window.fill
  rw [dif_pos (moved0_3 t _)]
  unfold iblk
  rw [View.read_apply]
  exact z_apply m c _ (win0_3.index t) 512 1024 r k (idx_3 t) rfl rfl _ _ (congrArg (· + r.val) (Nat.mul_comm _ _)) rfl

/-- … and its second. -/
theorem X4_apply (c : Dev nD) (t : Fin cfg0.N) (r : Fin 512) (k : Fin 1024) :
    (X0_4 m c t : Vec Ideal S512x1024 .bf16) (ix2 r k) = (A m c).z (row (t.cast N_0) r) ⟨5120 + k.val, by omega⟩ := by
  unfold X0_4 Pipeline.Window.fill
  rw [dif_pos (moved0_4 t _)]
  unfold iblk
  rw [View.read_apply]
  exact z_apply m c _ (win0_4.index t) 512 1024 r k (idx_4 t) rfl rfl _ _ (congrArg (· + r.val) (Nat.mul_comm _ _)) rfl

/-- The retention's gate. -/
theorem X7_apply (c : Dev nD) (t : Fin cfg0.N) (r : Fin 512) (k : Fin 1024) :
    (X0_7 m c t : Vec Ideal S512x1024 .bf16) (ix2 r k) = (A m c).z (row (t.cast N_0) r) ⟨7168 + k.val, by omega⟩ := by
  unfold X0_7 Pipeline.Window.fill
  rw [dif_pos (moved0_7 t _)]
  unfold iblk
  rw [View.read_apply]
  exact z_apply m c _ (win0_7.index t) 512 1024 r k (idx_7 t) rfl rfl _ _ (congrArg (· + r.val) (Nat.mul_comm _ _)) rfl

/-- The convolution's output gate. -/
theorem X8_apply (c : Dev nD) (t : Fin cfg0.N) (r : Fin 512) (k : Fin 1024) :
    (X0_8 m c t : Vec Ideal S512x1024 .bf16) (ix2 r k) = (A m c).z (row (t.cast N_0) r) ⟨8192 + k.val, by omega⟩ := by
  unfold X0_8 Pipeline.Window.fill
  rw [dif_pos (moved0_8 t _)]
  unfold iblk
  rw [View.read_apply]
  exact z_apply m c _ (win0_8.index t) 512 1024 r k (idx_8 t) rfl rfl _ _ (congrArg (· + r.val) (Nat.mul_comm _ _)) rfl

/-- The attention's gate. -/
theorem X9_apply (c : Dev nD) (t : Fin cfg0.N) (r : Fin 512) (k : Fin 1024) :
    (X0_9 m c t : Vec Ideal S512x1024 .bf16) (ix2 r k) = (A m c).z (row (t.cast N_0) r) ⟨9216 + k.val, by omega⟩ := by
  unfold X0_9 Pipeline.Window.fill
  rw [dif_pos (moved0_9 t _)]
  unfold iblk
  rw [View.read_apply]
  exact z_apply m c _ (win0_9.index t) 512 1024 r k (idx_9 t) rfl rfl _ _ (congrArg (· + r.val) (Nat.mul_comm _ _)) rfl

/-- The convolution's first factor in the eight rows before. -/
theorem X5_apply (c : Dev nD) (t : Fin cfg0.N) (h : ¬t.val % 8 = 0) (q : Fin 8) (k : Fin 1024) :
    (X0_5 m c t : Vec Ideal S8x1024 .bf16) (ix2 q k)
      = (A m c).z ⟨512 * t.val + q.val - 8, by have := lt32 t; omega⟩ ⟨4096 + k.val, by omega⟩ := by
  unfold X0_5 Pipeline.Window.fill
  rw [dif_pos (moved0_5 t _)]
  unfold iblk
  rw [View.read_apply]
  exact z_apply m c _ (win0_5.index t) 8 1024 q k (idx_5 t) rfl rfl _ _
    (by show (64 * t.val - 1) * 8 + q.val = 512 * t.val + q.val - 8; omega) rfl

/-- … and its second. -/
theorem X6_apply (c : Dev nD) (t : Fin cfg0.N) (h : ¬t.val % 8 = 0) (q : Fin 8) (k : Fin 1024) :
    (X0_6 m c t : Vec Ideal S8x1024 .bf16) (ix2 q k)
      = (A m c).z ⟨512 * t.val + q.val - 8, by have := lt32 t; omega⟩ ⟨5120 + k.val, by omega⟩ := by
  unfold X0_6 Pipeline.Window.fill
  rw [dif_pos (moved0_6 t _)]
  unfold iblk
  rw [View.read_apply]
  exact z_apply m c _ (win0_6.index t) 8 1024 q k (idx_6 t) rfl rfl _ _
    (by show (64 * t.val - 1) * 8 + q.val = 512 * t.val + q.val - 8; omega) rfl

/-- The heads' gates. -/
theorem iblk10_apply (c : Dev nD) (t : Fin cfg0.N) (r : Fin 512) (k : Fin 128) :
    (iblk m c 10 t : Vec Ideal S512x128 .bf16) (ix2 r k) = (A m c).z (row (t.cast N_0) r) ⟨12288 + k.val, by omega⟩ := by
  unfold iblk
  rw [View.read_apply]
  exact z_apply m c _ (win0_10.index t) 512 128 r k (idx_10 t) rfl rfl _ _ (congrArg (· + r.val) (Nat.mul_comm _ _)) rfl

/-- The convolution's weights. -/
theorem iblk14_apply (c : Dev nD) (t : Fin cfg0.N) (q : Fin 3) (k : Fin 1024) :
    (iblk m c 14 t : Vec Ideal S3x1024 .f32) (ix2 q k) = (A m c).cw q k := by
  unfold iblk
  rw [View.read_apply]
  show V m c main_v1 _ = _
  have e : V m c main_v1 = shapeCast S3x1024 (extractStridedSlice S1x3x1024 ![1, 0, 0] (m ((c : Thread nD τ).loc main_arg6))
      slices_S2x3x1024_S1x3x1024_1_0_0) shapeCasts_S1x3x1024_S3x1024 := by
    dsimp only [V, hostOps0]; after_results; rfl
  rw [e]
  refine (congrArg _ (idx2 _ (ix2 q k) (win0_14.index t) 3 1024 q k (idx_14 t) rfl rfl
    (by show 0 * 3 + q.val = q.val; omega) (by show 0 * 1024 + k.val = k.val; omega))).trans ?_
  pointwise
  rfl

/-- One where the head is the column's, else zero. -/
theorem bit (k h : ℕ) (hk : k < 128) (hh : h < 48) :
    FloatOps.uitofp (F := Ideal) .bf16 (IntOp.cmpi .eq (BitVec.ofNat 32 k) (BitVec.ofNat 32 h)) = if k = h then (1 : EReal) else 0 := by
  have e : (BitVec.ofNat 32 k = BitVec.ofNat 32 h) ↔ k = h := by
    rw [← BitVec.toNat_inj, BitVec.toNat_ofNat, BitVec.toNat_ofNat, Nat.mod_eq_of_lt (by omega), Nat.mod_eq_of_lt (by omega)]
  show (((IntOp.cmpi .eq (BitVec.ofNat 32 k) (BitVec.ofNat 32 h)).toNat : ℝ) : EReal) = _
  unfold IntOp.cmpi
  by_cases hkh : k = h
  · simp [hkh]
  · simp [hkh, e]

/-- The table of zeros and ones. -/
theorem iblk15_apply (c : Dev nD) (t : Fin cfg0.N) (k : Fin 128) (l : Fin 3072) :
    (iblk m c 15 t : Vec Ideal S128x3072 .bf16) (ix2 k l) = if k.val = l.val / 64 then (1 : EReal) else (0 : EReal) := by
  unfold iblk
  rw [View.read_apply]
  show V m c main_v8 _ = _
  have e : @Eq (FVec Ideal S128x3072 .bf16) (V m c main_v8) (shapeCast S128x3072 (broadcastInDim S128x48x64 ![0, 1, 2] bcast_S128x48x1_S128x48x64_0_1_2
      (broadcastInDim S128x48x1 ![0, 1] bcast_S128x48_S128x48x1_0_1 (uitofp (F := Ideal) .bf16
        (cmpi .eq (iotaInDim S128x48 32 0) (iotaInDim S128x48 32 1))))) shapeCasts_S128x48x64_S128x3072) := by
    dsimp only [V, hostOps0]; after_results; rfl
  refine (congrFun e _).trans ?_
  refine (congrArg _ (idx2 _ (ix2 k l) (win0_15.index t) 128 3072 k l (idx_15 t) rfl rfl
    (by show 0 * 128 + k.val = k.val; omega) (by show 0 * 3072 + l.val = l.val; omega))).trans ?_
  pointwise
  exact bit _ _ k.isLt (by omega)

/-- The point's weights of `Args.w 0`. -/
theorem iblk16_apply (c : Dev nD) (t : Fin cfg0.N) (k l : Fin 1024) :
    (iblk m c 16 t : Vec Ideal S1x1024x1024 .bf16) (ix3 0 k l) = (A m c).w 0 k l := by
  unfold iblk
  rw [View.read_apply]
  show V m c main_v9 _ = _
  have e : @Eq (FVec Ideal S2x1024x1024 .bf16) (V m c main_v9)
      (truncf (F := Ideal) (s := S2x1024x1024) (φ := .f32) .bf16 (m ((c : Thread nD τ).loc main_arg7)) bitsLt_bf16_f32) := by
    dsimp only [V, hostOps0]; after_results
  refine (congrFun e _).trans ?_
  exact congrArg (m ((c : Thread nD τ).loc main_arg7)) (idx3 _ (ix3 1 k l) (win0_16.index t) 1 1024 1024 0 k l (idx_16 t) rfl rfl rfl
    rfl (by show 0 * 1024 + k.val = k.val; omega) (by show 0 * 1024 + l.val = l.val; omega))

/-- The point's weights of `Args.w 1`. -/
theorem iblk17_apply (c : Dev nD) (t : Fin cfg0.N) (k l : Fin 1024) :
    (iblk m c 17 t : Vec Ideal S1x1024x1024 .bf16) (ix3 0 k l) = (A m c).w 1 k l := by
  unfold iblk
  rw [View.read_apply]
  show V m c main_v10 _ = _
  have e : @Eq (FVec Ideal S2x1024x1024 .bf16) (V m c main_v10)
      (truncf (F := Ideal) (s := S2x1024x1024) (φ := .f32) .bf16 (m ((c : Thread nD τ).loc main_arg8)) bitsLt_bf16_f32) := by
    dsimp only [V, hostOps0]; after_results
  refine (congrFun e _).trans ?_
  exact congrArg (m ((c : Thread nD τ).loc main_arg8)) (idx3 _ (ix3 1 k l) (win0_17.index t) 1 1024 1024 0 k l (idx_17 t) rfl rfl rfl
    rfl (by show 0 * 1024 + k.val = k.val; omega) (by show 0 * 1024 + l.val = l.val; omega))

/-- The point's weights of `Args.w 2`. -/
theorem iblk18_apply (c : Dev nD) (t : Fin cfg0.N) (k l : Fin 1024) :
    (iblk m c 18 t : Vec Ideal S1x1024x1024 .bf16) (ix3 0 k l) = (A m c).w 2 k l := by
  unfold iblk
  rw [View.read_apply]
  show V m c main_v11 _ = _
  have e : @Eq (FVec Ideal S2x1024x1024 .bf16) (V m c main_v11)
      (truncf (F := Ideal) (s := S2x1024x1024) (φ := .f32) .bf16 (m ((c : Thread nD τ).loc main_arg9)) bitsLt_bf16_f32) := by
    dsimp only [V, hostOps0]; after_results
  refine (congrFun e _).trans ?_
  exact congrArg (m ((c : Thread nD τ).loc main_arg9)) (idx3 _ (ix3 1 k l) (win0_18.index t) 1 1024 1024 0 k l (idx_18 t) rfl rfl rfl
    rfl (by show 0 * 1024 + k.val = k.val; omega) (by show 0 * 1024 + l.val = l.val; omega))

/-- The point's weights of `Args.wm`. -/
theorem iblk19_apply (c : Dev nD) (t : Fin cfg0.N) (k l : Fin 1024) :
    (iblk m c 19 t : Vec Ideal S1x1024x1024 .bf16) (ix3 0 k l) = (A m c).wm k l := by
  unfold iblk
  rw [View.read_apply]
  show V m c main_v12 _ = _
  have e : @Eq (FVec Ideal S2x1024x1024 .bf16) (V m c main_v12)
      (truncf (F := Ideal) (s := S2x1024x1024) (φ := .f32) .bf16 (m ((c : Thread nD τ).loc main_arg10)) bitsLt_bf16_f32) := by
    dsimp only [V, hostOps0]; after_results
  refine (congrFun e _).trans ?_
  exact congrArg (m ((c : Thread nD τ).loc main_arg10)) (idx3 _ (ix3 1 k l) (win0_19.index t) 1 1024 1024 0 k l (idx_19 t) rfl rfl rfl
    rfl (by show 0 * 1024 + k.val = k.val; omega) (by show 0 * 1024 + l.val = l.val; omega))

/-- A point's blocks hold its rows and the weights. -/
theorem blocks (c : Dev nD) (t : Fin cfg0.N) : Blocks (A m c) (t.cast N_0) (iblk m c 0 t) (iblk m c 1 t) (X0_2 m c t) (X0_3 m c t) (X0_4 m c t) (X0_5 m c t) (X0_6 m c t) (X0_7 m c t) (X0_8 m c t) (X0_9 m c t) (iblk m c 10 t) (iblk m c 11 t) (iblk m c 12 t) (iblk m c 13 t) (iblk m c 14 t) (iblk m c 15 t) (iblk m c 16 t) (iblk m c 17 t) (iblk m c 18 t) (iblk m c 19 t) :=
  ⟨iblk0_apply m c t, iblk1_apply m c t, X2_apply m c t, X3_apply m c t, X4_apply m c t, X5_apply m c t, X6_apply m c t,
    X7_apply m c t, X8_apply m c t, X9_apply m c t, iblk10_apply m c t, iblk11_apply m c t, iblk12_apply m c t, iblk13_apply m c t,
    iblk14_apply m c t, iblk15_apply m c t, iblk16_apply m c t, iblk17_apply m c t, iblk18_apply m c t, iblk19_apply m c t⟩

theorem hz2 : (![0, 0] : Fin 2 → Nat) = fun _ => 0 := funext fun a => by fin_cases a <;> rfl
theorem hz3 : (![0, 0, 0] : Fin 3 → Nat) = fun _ => 0 := funext fun a => by fin_cases a <;> rfl

section Run
variable (c : Dev nD) (i : grid0.Coords)
  (a1 : Memref sig .tc .vmem S512x1024 .f32) (h1 : a1.IsWhole)
  (a2 : Memref sig .tc .vmem S512x1024 .bf16) (h2 : a2.IsWhole)
  (a3 : Memref sig .tc .vmem S512x1024 .bf16) (h3 : a3.IsWhole)
  (a4 : Memref sig .tc .vmem S512x1024 .bf16) (h4 : a4.IsWhole)
  (a5 : Memref sig .tc .vmem S512x1024 .bf16) (h5 : a5.IsWhole)
  (a6 : Memref sig .tc .vmem S8x1024 .bf16) (h6 : a6.IsWhole)
  (a7 : Memref sig .tc .vmem S8x1024 .bf16) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S512x128 .bf16) (h11 : a11.IsWhole)
  (a12 : Memref sig .tc .vmem S512x1024 .bf16) (h12 : a12.IsWhole)
  (a13 : Memref sig .tc .vmem S512x1024 .bf16) (h13 : a13.IsWhole)
  (a14 : Memref sig .tc .vmem S512x1024 .bf16) (h14 : a14.IsWhole)
  (a15 : Memref sig .tc .vmem S3x1024 .f32) (h15 : a15.IsWhole)
  (a16 : Memref sig .tc .vmem S128x3072 .bf16) (h16 : a16.IsWhole)
  (a17 : Memref sig .tc .vmem S1x1024x1024 .bf16) (h17 : a17.IsWhole)
  (a18 : Memref sig .tc .vmem S1x1024x1024 .bf16) (h18 : a18.IsWhole)
  (a19 : Memref sig .tc .vmem S1x1024x1024 .bf16) (h19 : a19.IsWhole)
  (a20 : Memref sig .tc .vmem S1x1024x1024 .bf16) (h20 : a20.IsWhole)
  (a21 : Memref sig .tc .vmem S512x1024 .f32) (h21 : a21.IsWhole)
  (x0 : Vec Ideal S512x1024 .f32)  (x1 : Vec Ideal S512x1024 .bf16)  (x2 : Vec Ideal S512x1024 .bf16)  (x3 : Vec Ideal S512x1024 .bf16)  (x4 : Vec Ideal S512x1024 .bf16)
  (x5 : Vec Ideal S8x1024 .bf16)  (x6 : Vec Ideal S8x1024 .bf16)  (x7 : Vec Ideal S512x1024 .bf16)  (x8 : Vec Ideal S512x1024 .bf16)  (x9 : Vec Ideal S512x1024 .bf16)
  (x10 : Vec Ideal S512x128 .bf16)  (x11 : Vec Ideal S512x1024 .bf16)  (x12 : Vec Ideal S512x1024 .bf16)  (x13 : Vec Ideal S512x1024 .bf16)  (x14 : Vec Ideal S3x1024 .f32)
  (x15 : Vec Ideal S128x3072 .bf16)  (x16 : Vec Ideal S1x1024x1024 .bf16)  (x17 : Vec Ideal S1x1024x1024 .bf16)  (x18 : Vec Ideal S1x1024x1024 .bf16)  (x19 : Vec Ideal S1x1024x1024 .bf16)

/-- What the body leaves in its output block. -/
theorem out_A : out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 x0 x1 x2 x3 x4 x5 x6 x7 x8 x9 x10 x11 x12 x13 x14 x15 x16 x17 x18 x19
      = blockOut i x0 x1 x2 x3 x4 x5 x6 x7 x8 x9 x10 x11 x12 x13 x14 x15 x16 x17 x18 x19 := by
  unfold out0_A_20
  rw [View.read_writes_junk_eq_canon]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread,
    View.ld_unit_zero (S := S512x1024) hz2, View.ld_unit_zero (S := S8x1024) hz2, View.ld_unit_zero (S := S512x128) hz2,
    View.ld_unit_zero (S := S3x1024) hz2, View.ld_unit_zero (S := S128x3072) hz2, View.ld_unit_zero (S := S1x1024x1024) hz3]
  rfl

end Run

/-- What every point writes: its rows plus their merge. -/
theorem outs_done (c : Dev nD) (t : Fin cfg0.N) (r : Fin 512) (l : Fin 1024) :
    outsAt0 m c t (ix2 r l) = (A m c).out (row (t.cast N_0) r) l := by
  unfold outsAt0
  rw [out_A]
  exact out_done (blocks m c t) (coord t) r l

/-- Every point writes its block back. -/
theorem flush : ∀ t : Fin cfg0.N, (cfg0.win 20).flush t = true :=
  (by decide +kernel : ∀ t : Fin grid0.N, win0_20.flush t = true)

/-- The array the run leaves is the rows plus their merge. -/
theorem result_apply (c : Dev nD) (r : Fin 16384) (l : Fin 1024) :
    (dats m 0 c).arrAt 20 cfg0.N (ix2 r l) = (A m c).out r l := by
  have hN : r.val / 512 < cfg0.N := lt_of_lt_of_eq (by omega) N_0.symm
  have e := congrFun ((blocks20 m c ⟨r.val / 512, hN⟩ (flush _)).trans (flushed20 m c _)) (ix2 (⟨r.val % 512, by omega⟩ : Fin 512) l)
  rw [View.read_apply] at e
  refine (congrArg _ (idx2 _ (ix2 r l) (win0_20.index ⟨r.val / 512, hN⟩) 512 1024 (r.val % 512) l.val (idx_20 _) rfl rfl
    (by show r.val / 512 * 512 + r.val % 512 = r.val; omega) (by show 0 * 1024 + l.val = l.val; omega)).symm).trans (e.trans ?_)
  refine (outs_done m c ⟨r.val / 512, hN⟩ ⟨r.val % 512, by omega⟩ l).trans ?_
  exact congrArg (fun q => (A m c).out q l) (Fin.ext (show 512 * (r.val / 512) + r.val % 512 = r.val by omega))

end Cert.MergeIdeal.Value

end
-- ==== Proof.MergeRef.lean ====
/-
  The reference's merge, element by element: each of its intermediate arrays is the quantity `Args` names.
-/
module

public import proofs.«01_k».proof.Proof.MergeMath
public import proofs.«01_k».proof.Proof.Gen.MergeRefIdeal.Read

@[expose] public section

set_option maxRecDepth 16384

noncomputable section

namespace Cert.MergeMath

open Cert.MergeRefIdeal Cert.MergeRefIdeal.Read Idealize.ShloMosaic

variable (x0 : Vec Ideal S16384x1024 .f32) (x1 : Vec Ideal S16384x12800 .bf16) (x2 x3 x4 x5 : Vec Ideal S16384x1024 .bf16)
  (x6 : Vec Ideal S2x3x1024 .f32) (x7 x8 x9 x10 : Vec Ideal S2x1024x1024 .f32)

/-- Row `s` of sequence `b`. -/
def seqRow (b : Fin 4) (s : Fin 4096) : Fin 16384 := ⟨b.val * 4096 + s.val, by omega⟩

/-- The arguments. -/
abbrev R : Args := args 1 x0 x1 x2 x3 x4 x5 x6 x7 x8 x9 x10

/-- What the convolution reads. -/
theorem ref_u (b : Fin 4) (s : Fin 4096) (c : Fin 1024) : val_main_v15 (F := Ideal) x1 (ix3 b s c) = (R x0 x1 x2 x3 x4 x5 x6 x7 x8 x9 x10).u (seqRow b s) c := by
  pointwise [val_main_v15, val_main_v5, val_main_v4, val_main_v2, val_main_v1]
  rfl

/-- … one row before. -/
theorem ref_back1 (b : Fin 4) (s : Fin 4096) (c : Fin 1024) :
    val_main_v20 (F := Ideal) x1 (ix3 b s c) = (R x0 x1 x2 x3 x4 x5 x6 x7 x8 x9 x10).back 1 (seqRow b s) c := by
  pointwise [val_main_v20, val_main_v19, val_main_v18, val_main_cst_1]
  unfold Args.back
  have hs : (seqRow b s).val % 4096 = s.val := by show (b.val * 4096 + s.val) % 4096 = s.val; omega
  by_cases h : s.val < 1
  · rw [dif_pos h, if_pos (by rw [hs]; exact h)]
  · refine (dif_neg h).trans ((ref_u x0 x1 x2 x3 x4 x5 x6 x7 x8 x9 x10 b _ c).trans (Eq.trans ?_ (if_neg (by rw [hs]; exact h)).symm))
    exact congrArg (fun q => (R x0 x1 x2 x3 x4 x5 x6 x7 x8 x9 x10).u q c) (Fin.ext (show b.val * 4096 + (s.val - 1) = b.val * 4096 + s.val - 1 by omega))

/-- … two rows before. -/
theorem ref_back2 (b : Fin 4) (s : Fin 4096) (c : Fin 1024) :
    val_main_v23 (F := Ideal) x1 (ix3 b s c) = (R x0 x1 x2 x3 x4 x5 x6 x7 x8 x9 x10).back 2 (seqRow b s) c := by
  pointwise [val_main_v23, val_main_v22, val_main_v21, val_main_cst_2]
  unfold Args.back
  have hs : (seqRow b s).val % 4096 = s.val := by show (b.val * 4096 + s.val) % 4096 = s.val; omega
  by_cases h : s.val < 2
  · rw [dif_pos h, if_pos (by rw [hs]; exact h)]
  · refine (dif_neg h).trans ((ref_u x0 x1 x2 x3 x4 x5 x6 x7 x8 x9 x10 b _ c).trans (Eq.trans ?_ (if_neg (by rw [hs]; exact h)).symm))
    exact congrArg (fun q => (R x0 x1 x2 x3 x4 x5 x6 x7 x8 x9 x10).u q c) (Fin.ext (show b.val * 4096 + (s.val - 2) = b.val * 4096 + s.val - 2 by omega))

/-- The short convolution's output. -/
theorem ref_ysc (b : Fin 4) (s : Fin 4096) (c : Fin 1024) :
    val_main_v41 (F := Ideal) x1 x6 (ix3 b s c) = (R x0 x1 x2 x3 x4 x5 x6 x7 x8 x9 x10).ysc (seqRow b s) c := by
  pointwise [val_main_v41, val_main_v40, val_main_v39, val_main_v38, val_main_v37, val_main_v36, val_main_v35,
    val_main_v34, val_main_v33, val_main_v32, val_main_v31, val_main_v30, val_main_v29, val_main_v28,
    val_main_v27, val_main_v26, val_main_v25, val_main_v24, val_main_v17, val_main_v16, val_main_v3,
    val_main_v2, val_main_v1]
  rw [ref_u x0 x1 x2 x3 x4 x5 x6 x7 x8 x9 x10, ref_back1 x0 x1 x2 x3 x4 x5 x6 x7 x8 x9 x10, ref_back2 x0 x1 x2 x3 x4 x5 x6 x7 x8 x9 x10]
  rfl

/-- A head's gate in a branch. -/
theorem ref_gate (b : Fin 4) (s : Fin 4096) (i : Fin 3) (h : Fin 16) :
    val_main_v14 (F := Ideal) x1 (ix4 b s i h)
      = MergeMath.logistic ((R x0 x1 x2 x3 x4 x5 x6 x7 x8 x9 x10).z (seqRow b s) ⟨12288 + (16 * i.val + h.val), by omega⟩) := by
  unfold MergeMath.logistic
  pointwise [val_main_v14, val_main_v13, val_main_v12, val_main_v11, val_main_v10, val_main_v9, val_main_v8,
    val_main_v7, val_main_cst, val_main_cst_0, val_main_v2, val_main_v1]
  exact congrArg (fun q => Ideal.div _ (_ + Ideal.exp (-x1 (ix2 (seqRow b s) q)))) (Fin.ext (by show 12288 + (i.val * 16 + h.val) = 12288 + (16 * i.val + h.val); omega))

/-- The gated sum of the attention branches. -/
theorem ref_nsa (b : Fin 4) (s : Fin 4096) (c : Fin 1024) :
    val_main_v65 (F := Ideal) x1 x3 x4 x5 (ix3 b s c) = (R x0 x1 x2 x3 x4 x5 x6 x7 x8 x9 x10).ynsa (seqRow b s) c := by
  pointwise [val_main_v65, val_main_v64, val_main_v63, val_main_v62, val_main_v61, val_main_v60, val_main_v59,
    val_main_v58, val_main_v57, val_main_v56, val_main_v55, val_main_v54, val_main_v53, val_main_v52,
    val_main_v51, val_main_v50, val_main_v49, val_main_v48, val_main_v47, val_main_v46, val_main_v45,
    val_main_v44, val_main_v43, val_main_v42]
  rw [ref_gate x0 x1 x2 x3 x4 x5 x6 x7 x8 x9 x10, ref_gate x0 x1 x2 x3 x4 x5 x6 x7 x8 x9 x10, ref_gate x0 x1 x2 x3 x4 x5 x6 x7 x8 x9 x10]
  rfl

/-- The gated sum of the projected mixers. -/
theorem ref_merged (b : Fin 4) (s : Fin 4096) (c : Fin 1024) :
    val_main_v90 (F := Ideal) x1 x2 x3 x4 x5 x6 x7 x8 x9 (ix3 b s c) = (R x0 x1 x2 x3 x4 x5 x6 x7 x8 x9 x10).merged (seqRow b s) c := by
  unfold Args.merged MergeMath.logistic
  pointwise [val_main_v90, val_main_v89, val_main_v88, val_main_v87, val_main_v86, val_main_v85, val_main_v84,
    val_main_v83, val_main_v82, val_main_v81, val_main_v80, val_main_v79, val_main_v78, val_main_v77,
    val_main_v76, val_main_v75, val_main_v74, val_main_v73, val_main_v72, val_main_v71, val_main_v70,
    val_main_v69, val_main_v68, val_main_v67, val_main_v66, val_main_cst_3, val_main_cst_4, val_main_v6,
    val_main_v2, val_main_v1]
  simp only [ref_ysc x0 x1 x2 x3 x4 x5 x6 x7 x8 x9 x10, ref_nsa x0 x1 x2 x3 x4 x5 x6 x7 x8 x9 x10]
  have e1 : (⟨7168 + (1024 + c.val), by omega⟩ : Fin 12800) = ⟨8192 + c.val, by omega⟩ := Fin.ext (by show 7168 + (1024 + c.val) = 8192 + c.val; omega)
  have e2 : (⟨7168 + (2048 + c.val), by omega⟩ : Fin 12800) = ⟨9216 + c.val, by omega⟩ := Fin.ext (by show 7168 + (2048 + c.val) = 9216 + c.val; omega)
  rw [e1, e2]
  rfl

/-- The rows plus their merge. -/
theorem ref_out (b : Fin 4) (s : Fin 4096) (l : Fin 1024) :
    val_main_v94 (F := Ideal) x0 x1 x2 x3 x4 x5 x6 x7 x8 x9 x10 (ix3 b s l) = (R x0 x1 x2 x3 x4 x5 x6 x7 x8 x9 x10).out (seqRow b s) l := by
  pointwise [val_main_v94, val_main_v93, val_main_v92, val_main_v91, val_main_v0]
  simp only [ref_merged x0 x1 x2 x3 x4 x5 x6 x7 x8 x9 x10]
  rfl

/-- The reference's array is the rows plus their merge. -/
theorem ref_result (r : Fin 16384) (l : Fin 1024) :
    val_main_v95 (F := Ideal) x0 x1 x2 x3 x4 x5 x6 x7 x8 x9 x10 (ix2 r l) = (R x0 x1 x2 x3 x4 x5 x6 x7 x8 x9 x10).out r l := by
  pointwise [val_main_v95]
  rw [ref_out]
  exact congrArg (fun q => (R x0 x1 x2 x3 x4 x5 x6 x7 x8 x9 x10).out q l) (Fin.ext (by show r.val / 4096 * 4096 + r.val % 4096 = r.val; omega))

end Cert.MergeMath

end
-- ==== Proof.Merge.lean ====
/-
  The fused merge computes reference.py's: the short convolution, the gated sum of the attention branches, the gated sum
  of the projected mixers, its projection and the residual.

  Both arrays are `Args.out` of the same arguments: the kernel's by `MergeIdeal.Value.result_apply`, the reference's by
  `MergeMath.ref_result`.
-/
module

public import proofs.«01_k».proof.Defs
public import proofs.«01_k».proof.Proof.MergeKernel
public import proofs.«01_k».proof.Proof.MergeRef
public import proofs.«01_k».proof.Proof.Gen.MergeRefIdeal.Run

@[expose] public section

set_option maxRecDepth 16384

noncomputable section

namespace Cert.MergeMath

open Idealize.ShloMosaic Idealize.ShloMosaic.TcCoe Idealize.SL.Sem

/-- From memories that agree on the arguments, the kernel and the reference end with the same array. -/
theorem algebraic : Cert.algebraic_MergeIdeal_MergeRefIdeal := by
  intro m ρ m' ρ' _ hagree
  refine ⟨fun c => (MergeIdeal.Gen.dats m 0 c).arrAt 20 MergeIdeal.cfg0.N, MergeIdeal.Value.run_blocks (F := Ideal) m ρ, ?_⟩
  refine (θ_run MergeRefIdeal.defs _ _).mono (fun r h c => ⟨(h c).1.trans ?_, (h c).2⟩)
    (MergeRefIdeal.Value.run (F := Ideal) m' ρ')
  obtain ⟨h0, h1, h2, h3, h4, h5, h6, h7, h8, h9, h10⟩ := hagree c
  rw [MergeRefIdeal.Read.val_main_v95_eq]
  show MergeRefIdeal.Read.val_main_v95 (F := Ideal)
      (m' ((c : Thread MergeRefIdeal.nD MergeRefIdeal.τ).loc MergeRefIdeal.main_arg0))
      (m' ((c : Thread MergeRefIdeal.nD MergeRefIdeal.τ).loc MergeRefIdeal.main_arg1))
      (m' ((c : Thread MergeRefIdeal.nD MergeRefIdeal.τ).loc MergeRefIdeal.main_arg2))
      (m' ((c : Thread MergeRefIdeal.nD MergeRefIdeal.τ).loc MergeRefIdeal.main_arg3))
      (m' ((c : Thread MergeRefIdeal.nD MergeRefIdeal.τ).loc MergeRefIdeal.main_arg4))
      (m' ((c : Thread MergeRefIdeal.nD MergeRefIdeal.τ).loc MergeRefIdeal.main_arg5))
      (m' ((c : Thread MergeRefIdeal.nD MergeRefIdeal.τ).loc MergeRefIdeal.main_arg6))
      (m' ((c : Thread MergeRefIdeal.nD MergeRefIdeal.τ).loc MergeRefIdeal.main_arg7))
      (m' ((c : Thread MergeRefIdeal.nD MergeRefIdeal.τ).loc MergeRefIdeal.main_arg8))
      (m' ((c : Thread MergeRefIdeal.nD MergeRefIdeal.τ).loc MergeRefIdeal.main_arg9))
      (m' ((c : Thread MergeRefIdeal.nD MergeRefIdeal.τ).loc MergeRefIdeal.main_arg10)) = _
  rw [h0, h1, h2, h3, h4, h5, h6, h7, h8, h9, h10]
  funext j
  rw [eq_ix2 j]
  exact (ref_result _ _ _ _ _ _ _ _ _ _ _ _ _).trans (MergeIdeal.Value.result_apply m c _ _).symm

end Cert.MergeMath

end
-- ==== Proof.lean ====
/-
  The certificate: each program's frame, and the value claims of the calls.

  A kernel's frame is the generated one (`Gen.frame`). A reference's is its generated run, which leaves the
  arguments unchanged, and a reference has no semaphores. Idealizing rewrites nothing, so `preserves` is `trivial`.
  The value claims are `Cert.Retention.algebraic`, `Cert.InProj.algebraic`, `Cert.FfnMath.algebraic`,
  `Cert.FfnMath.first_algebraic` and `Cert.MergeMath.algebraic`.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnFirst.Frame
public import proofs.«01_k».proof.Proof.Gen.FfnFirstIdeal.Frame
public import proofs.«01_k».proof.Proof.Gen.FfnFirstRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Retention
public import proofs.«01_k».proof.Proof.InProj
public import proofs.«01_k».proof.Proof.Ffn
public import proofs.«01_k».proof.Proof.FfnFirst
public import proofs.«01_k».proof.Proof.Merge
public import Idealize.ShloMosaic.Adequacy
public import Idealize.ShloMosaic.Init

@[expose] public section

noncomputable section

namespace Cert.Proof

open Idealize.ShloMosaic Idealize.SL.Sem

/-- The retention's reference runs and leaves its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The projection's reference runs and leaves its arguments. -/
theorem frame_inProjRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The feed-forward part's reference runs and leaves its arguments. -/
theorem frame_ffnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The first layer's feed-forward reference runs and leaves its arguments. -/
theorem frame_ffnFirstRef : Cert.quiescent_FfnFirstRefIdeal := fun m ρ _ =>
  (θ_run Cert.FfnFirstRefIdeal.defs _ _).mono (fun r h => ⟨fun c => (h c).2, sem_eq_zero_of_no_sems (by decide) r.2⟩)
    (Cert.FfnFirstRefIdeal.Value.run (F := Ideal) m ρ)

/-- The merge's reference runs and leaves its arguments. -/
theorem frame_mergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem claim : Cert.Claim :=
  ⟨Cert.Kernel.Gen.facts, Cert.KernelIdeal.Gen.facts, Cert.ReferenceIdeal.Gen.facts, Cert.InProj.Gen.facts,
    Cert.InProjIdeal.Gen.facts, Cert.InProjRefIdeal.Gen.facts, Cert.Ffn.Gen.facts, Cert.FfnIdeal.Gen.facts,
    Cert.FfnRefIdeal.Gen.facts, Cert.FfnFirst.Gen.facts, Cert.FfnFirstIdeal.Gen.facts, Cert.FfnFirstRefIdeal.Gen.facts,
    Cert.Merge.Gen.facts, Cert.MergeIdeal.Gen.facts, Cert.MergeRefIdeal.Gen.facts,
    fun m ρ _ => Cert.Kernel.Gen.frame m ρ, fun m ρ _ => Cert.KernelIdeal.Gen.frame m ρ, frame_reference,
    fun m ρ _ => Cert.InProj.Gen.frame m ρ, fun m ρ _ => Cert.InProjIdeal.Gen.frame m ρ, frame_inProjRef,
    fun m ρ _ => Cert.Ffn.Gen.frame m ρ, fun m ρ _ => Cert.FfnIdeal.Gen.frame m ρ, frame_ffnRef,
    fun m ρ _ => Cert.FfnFirst.Gen.frame m ρ, fun m ρ _ => Cert.FfnFirstIdeal.Gen.frame m ρ, frame_ffnFirstRef,
    fun m ρ _ => Cert.Merge.Gen.frame m ρ, fun m ρ _ => Cert.MergeIdeal.Gen.frame m ρ, frame_mergeRef,
    trivial, Cert.Retention.algebraic, trivial, Cert.InProj.algebraic, trivial,
    Cert.FfnMath.algebraic, trivial, Cert.FfnMath.first_algebraic, trivial, Cert.MergeMath.algebraic⟩

end Cert.Proof

end
